-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16384x64 .f32) (main_arg1 : FVec F S8192x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== KernelIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S4096 : Shape := ⟨1, ![4096]⟩
abbrev S1x4096 : Shape := ⟨2, ![1, 4096]⟩
abbrev S1x1 : Shape := ⟨2, ![1, 1]⟩
abbrev S1024x1 : Shape := ⟨2, ![1024, 1]⟩
abbrev S1024x64 : Shape := ⟨2, ![1024, 64]⟩
abbrev S1024 : Shape := ⟨1, ![1024]⟩
abbrev S1024x8192 : Shape := ⟨2, ![1024, 8192]⟩
abbrev S1024x4096 : Shape := ⟨2, ![1024, 4096]⟩
abbrev S1x1024 : Shape := ⟨2, ![1, 1024]⟩
abbrev S1 : Shape := ⟨1, ![1]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩

abbrev nBuf : Table → Nat
  | .hbm => 23
  | .local .tc .vmem => 9
  | .local .tc .smem => 1
  | .local .scVector .vmem => 2
  | _ => 0

abbrev bufTy : (tb : Table) → Fin (nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S4096, .f32⟩
  | .hbm, ⟨11, _⟩ => ⟨S1x4096, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S16384, .i32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S8192x64, .f32⟩
  | .hbm, ⟨20, _⟩ => ⟨S8192x128, .f32⟩
  | .hbm, ⟨21, _⟩ => ⟨S16384x128, .f32⟩
  | .hbm, ⟨22, _⟩ => ⟨S16384x64, .f32⟩
  | .local .tc .vmem, ⟨0, _⟩ => ⟨S1024x1, .f32⟩
  | .local .tc .vmem, ⟨1, _⟩ => ⟨S1024x1, .f32⟩
  | .local .tc .vmem, ⟨2, _⟩ => ⟨S1x8192, .f32⟩
  | .local .tc .vmem, ⟨3, _⟩ => ⟨S1x4096, .f32⟩
  | .local .tc .vmem, ⟨4, _⟩ => ⟨S1024x64, .f32⟩
  | .local .tc .vmem, ⟨5, _⟩ => ⟨S1024x64, .f32⟩
  | .local .tc .vmem, ⟨6, _⟩ => ⟨S8192x64, .f32⟩
  | .local .tc .vmem, ⟨7, _⟩ => ⟨S1024, .i32⟩
  | .local .tc .vmem, ⟨8, _⟩ => ⟨S1024, .i32⟩
  | .local .tc .smem, ⟨0, _⟩ => ⟨S1x1, .f32⟩
  | .local .scVector .vmem, ⟨0, _⟩ => ⟨S512, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v13_scv : Ref sig .scVector := ⟨.hbm, 20, rfl⟩
abbrev main_v10_0_scv : Ref sig .scVector := ⟨.hbm, 15, rfl⟩
abbrev main_v14_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S64x8192 : Shape := ⟨2, ![64, 8192]⟩
abbrev S16384x8192 : Shape := ⟨2, ![16384, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S64x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S16384x8192, .f32⟩
  | .hbm, ⟨18, _⟩ => ⟨S16384x8192, .f32⟩
  | .hbm, ⟨19, _⟩ => ⟨S16384x8192, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S1x1, .i32⟩
  | .hbm, ⟨37, _⟩ => ⟨S16384x1, .i32⟩
  | .hbm, ⟨38, _⟩ => ⟨S16384x1, .i1⟩
  | .hbm, ⟨39, _⟩ => ⟨S16384x1, .i1⟩
  | .hbm, ⟨40, _⟩ => ⟨S_, .i1⟩
  | .hbm, ⟨41, _⟩ => ⟨S16384, .i1⟩
  | .hbm, ⟨42, _⟩ => ⟨S16384x64, .f32⟩
  | .hbm, ⟨43, _⟩ => ⟨S16384x64, .i1⟩
  | .hbm, ⟨44, _⟩ => ⟨S_, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Proof.KernelIdeal.Base.lean ====
/- The program as the launch theorem sees it, the ghost state of the whole proof, and the buffers' contents along @main. -/
module

public import Idealize.ShloMosaic.Lib.SparseCore.Quiescent
public import Idealize.ShloMosaic.Lib.Pipeline.Regions
public import Idealize.ShloMosaic.Lib.Pipeline.RegionArraysS
public import Idealize.ShloMosaic.Lib.Pipeline.FrameBody
public import Idealize.ShloMosaic.Lib.Transfers
public import Idealize.ShloMosaic.Lib.Ring
public import Idealize.ShloMosaic.Lib.Tactic
public import Idealize.ShloMosaic.Lib.VecWindow
public import Idealize.ShloMosaic.Lib.WordCmp
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱₁ : Variants := 𝒱₀.lift
abbrev v₀ : 𝒱₁.V := Sum.inl none

omit [FloatOps F] in
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev ER : Emb (UP × Counters) (MT nD τ sig (HIx 1) (Elt F) ℕ UU ℕ) := embR
abbrev EP : Emb UP (MT nD τ sig (HIx 1) (Elt F) ℕ UU ℕ) := (Emb.inl : Emb UP (UP × Counters)).trans ER

omit [FloatOps F] in
instance EP_landsIn : (EP (F := F)).LandsIn (upEmb : UEmb _ 𝕄) := by infer_instance

/-! ## @main as lists of host operations around the two calls -/

/-- The host operations before the first call. -/
abbrev opsA : List (HloOp τ sig (Elt F)) :=
  [ StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.reshape main_v4 main_v5 (rfl : (.f32 : EltTy) = .f32) shapeCasts_S8192_S1x8192,
    StableHlo.nullary main_v6 (sitofp .f32 (iotaInDim S4096 32 0)),
    StableHlo.reshape main_v6 main_v7 (rfl : (.f32 : EltTy) = .f32) shapeCasts_S4096_S1x4096,
    StableHlo.nullary main_cst_1 (constant S_ .f32 0xC0000000#32),
    StableHlo.unary main_cst_1 main_v8 (broadcastInDim S8192x64 ![] bcast_S_S8192x64 : (⟨S_, .f32⟩ : BufTy).Contents (Elt F) → (⟨S8192x64, .f32⟩ : BufTy).Contents (Elt F)),
    StableHlo.binary main_v8 main_arg1 main_v9 (mulf : (⟨S8192x64, .f32⟩ : BufTy).Contents (Elt F) → (⟨S8192x64, .f32⟩ : BufTy).Contents (Elt F) → (⟨S8192x64, .f32⟩ : BufTy).Contents (Elt F)) ]

/-- The host operations between the two calls. -/
abbrev opsB : List (HloOp τ sig (Elt F)) :=
  [ StableHlo.reshape main_v10_1 main_v11 (rfl : (.f32 : EltTy) = .f32) shapeCasts_S1x1_S_,
    StableHlo.nullary main_cst_2 (constant S_ .f32 0x00000000#32),
    StableHlo.unary main_cst_2 main_v12 (broadcastInDim S8192x64 ![] bcast_S_S8192x64 : (⟨S_, .f32⟩ : BufTy).Contents (Elt F) → (⟨S8192x64, .f32⟩ : BufTy).Contents (Elt F)),
    StableHlo.binary main_arg1 main_v12 main_v13 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

/-- The host operations after the second call. -/
abbrev opsC : List (HloOp τ sig (Elt F)) :=
  [ StableHlo.unary main_v14 main_v15 ((extractStridedSlice S16384x64 ![0, 0] · slices_S16384x128_S16384x64_0_0) : (⟨S16384x128, .f32⟩ : BufTy).Contents (Elt F) → (⟨S16384x64, .f32⟩ : BufTy).Contents (Elt F)) ]

theorem opsA_sub : (opsA : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.nullary_bufs_sub .., StableHlo.reshape_bufs_sub .., StableHlo.nullary_bufs_sub .., StableHlo.unary_bufs_sub .., StableHlo.binary_bufs_sub ..⟩

theorem opsA_fresh : (opsA : List (HloOp τ sig (Elt F))).Forall fun op => op.fresh = ∅ := by
  simp only [List.Forall]; repeat' constructor

theorem opsB_sub : (opsB : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub ..⟩

theorem opsB_fresh : (opsB : List (HloOp τ sig (Elt F))).Forall fun op => op.fresh = ∅ := by
  simp only [List.Forall]; repeat' constructor

theorem opsC_sub : (opsC : List (HloOp τ sig (Elt F))).Forall fun op => op.bufs ⊆ StableHlo.tcRefs τ sig :=
  StableHlo.unary_bufs_sub ..

theorem opsC_fresh : (opsC : List (HloOp τ sig (Elt F))).Forall fun op => op.fresh = ∅ := by
  simp only [List.Forall]; repeat' constructor

/-- @main runs the three stretches of host operations with the two calls between them. -/
theorem main_eq (d : Dev nD) : main (F := F) d
    = (StableHlo.seq opsA >>= fun _ => SparseCore.liftProg (Prog.lift (.customCall (Pipeline.entry 0) ())) >>= fun _ =>
        StableHlo.seq opsB >>= fun _ => (K (F := F)).run d 0 >>= fun _ => StableHlo.seq opsC) := by
  rfl

end Cert.Proof.KernelIdeal

end
-- ==== Proof.KernelIdeal.Body.lean ====
/- The TensorCore kernel's body at one grid point: what it leaves in its two output buffers. -/
module

public import proofs.«01_k».proof.Proof.KernelIdeal.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! ## What the body computes -/

/-- The block of indices, from the five input blocks: for each row the smaller of the two half-codebook minima decides
    which half's first position is taken. -/
def idxOf (x0 : Vec F S1024x1 .f32) (x1 : Vec F S1x8192 .f32) (x2 : Vec F S1x4096 .f32) (x3 : Vec F S1024x64 .f32) (x4 : Vec F S8192x64 .f32) : Vec F S1024 .i32 :=
  k0_pay1 (k0_pay9 x3 x4 x0 x1 x2) (k0_pay11 x3 x4 x0 x1 x2) (k0_pay12 x3 x4 x0 x1)

/-- The one position of a 1 × 1 array. -/
def o11 : S1x1.Idx := fun a => ⟨0, by revert a; decide⟩

/-- The running sum after a block, from its inputs and the sum before. -/
def sumOf (x0 : Vec F S1024x1 .f32) (x1 : Vec F S1x8192 .f32) (x3 : Vec F S1024x64 .f32) (x4 : Vec F S8192x64 .f32) (a : F .f32) : F .f32 :=
  k0_pay2 (k0_pay8 x3 x4 x0 x1) (k0_pay10 x3 x4 x0 x1) (k0_pay12 x3 x4 x0 x1) a

/-- Whether the point is the first, as the body tests it. -/
abbrev cond0_0 (i : grid0.Coords) : Prop := (Scalar.cmpi .ne (Scalar.extui (Scalar.cmpi .eq (BitVec.ofNat 32 (i 0).val) 0#32)) 0#32) = 1#1
/-- Whether the point is the last, as the body tests it. -/
abbrev cond0_1 (i : grid0.Coords) : Prop := (Scalar.cmpi .ne (Scalar.extui (Scalar.cmpi .eq (BitVec.ofNat 32 (i 0).val) 15#32)) 0#32) = 1#1

/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- It holds at the last point only. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, e0]
    word_cmp
   : ∀ t : Fin grid0.N, cond0_1 (grid0.coords t) ↔ t.val % 16 = 15)

/-- A whole load of a 1024 × 1 buffer. -/
theorem load_S1024x1 {κ : Kind} {sp : Space} (v : View sig κ sp S1024x1 .f32) (f : v.ty.Contents (Elt F)) (h : ∀ a, (![0, 0] : Fin 2 → ℕ) a + (![1024, 1] : Fin 2 → ℕ) a ≤ S1024x1.size a) :
    v.readAt (Elt F) (Rect.unit (s := S1024x1) ![0, 0] ![1024, 1] h).toLoadRect f = v.read (Elt F) f :=
  View.readAt_full v f (off := ![0, 0]) h

/-- A whole load of a 1 × 8192 buffer. -/
theorem load_S1x8192 {κ : Kind} {sp : Space} (v : View sig κ sp S1x8192 .f32) (f : v.ty.Contents (Elt F)) (h : ∀ a, (![0, 0] : Fin 2 → ℕ) a + (![1, 8192] : Fin 2 → ℕ) a ≤ S1x8192.size a) :
    v.readAt (Elt F) (Rect.unit (s := S1x8192) ![0, 0] ![1, 8192] h).toLoadRect f = v.read (Elt F) f :=
  View.readAt_full v f (off := ![0, 0]) h

/-- A whole load of a 1 × 4096 buffer. -/
theorem load_S1x4096 {κ : Kind} {sp : Space} (v : View sig κ sp S1x4096 .f32) (f : v.ty.Contents (Elt F)) (h : ∀ a, (![0, 0] : Fin 2 → ℕ) a + (![1, 4096] : Fin 2 → ℕ) a ≤ S1x4096.size a) :
    v.readAt (Elt F) (Rect.unit (s := S1x4096) ![0, 0] ![1, 4096] h).toLoadRect f = v.read (Elt F) f :=
  View.readAt_full v f (off := ![0, 0]) h

/-- A whole load of a 1024 × 64 buffer. -/
theorem load_S1024x64 {κ : Kind} {sp : Space} (v : View sig κ sp S1024x64 .f32) (f : v.ty.Contents (Elt F)) (h : ∀ a, (![0, 0] : Fin 2 → ℕ) a + (![1024, 64] : Fin 2 → ℕ) a ≤ S1024x64.size a) :
    v.readAt (Elt F) (Rect.unit (s := S1024x64) ![0, 0] ![1024, 64] h).toLoadRect f = v.read (Elt F) f :=
  View.readAt_full v f (off := ![0, 0]) h

/-- A whole load of a 8192 × 64 buffer. -/
theorem load_S8192x64 {κ : Kind} {sp : Space} (v : View sig κ sp S8192x64 .f32) (f : v.ty.Contents (Elt F)) (h : ∀ a, (![0, 0] : Fin 2 → ℕ) a + (![8192, 64] : Fin 2 → ℕ) a ≤ S8192x64.size a) :
    v.readAt (Elt F) (Rect.unit (s := S8192x64) ![0, 0] ![8192, 64] h).toLoadRect f = v.read (Elt F) f :=
  View.readAt_full v f (off := ![0, 0]) h

/-- A load of the single word of a 1 × 1 buffer. -/
theorem load_word {κ : Kind} {sp : Space} (v : View sig κ sp S1x1 .f32) (f : v.ty.Contents (Elt F)) (h : ∀ a, (![0, 0] : Fin 2 → ℕ) a + (![1, 1] : Fin 2 → ℕ) a ≤ S1x1.size a)
    (y : (Rect.unit (s := S1x1) ![0, 0] ![1, 1] h).shape.Idx) :
    v.readAt (Elt F) (Rect.unit (s := S1x1) ![0, 0] ![1, 1] h).toLoadRect f y = v.read (Elt F) f o11 :=
  (congrFun (View.readAt_full v f (off := ![0, 0]) h) y).trans (congrArg (v.read (Elt F) f) (funext fun a => Fin.ext (by
    have h1 := (y a).isLt
    have h2 : (Rect.unit (s := S1x1) ![0, 0] ![1, 1] h).shape.size a = 1 := by fin_cases a <;> rfl
    show (y a).val = 0
    omega)))

/-- A whole store of a 1 × 1 buffer leaves its payload. -/
theorem store_word {κ : Kind} {sp : Space} (v : View sig κ sp S1x1 .f32) (f : v.ty.Contents (Elt F)) (h : ∀ a, (![0, 0] : Fin 2 → ℕ) a + (![1, 1] : Fin 2 → ℕ) a ≤ S1x1.size a)
    (w : (Rect.unit (s := S1x1) ![0, 0] ![1, 1] h).shape.Idx → Elt F .f32) (L : List (View.Piece (Elt F) S1x1 .f32)) :
    v.read (Elt F) (v.writes (Elt F) f (⟨Rect.unit (s := S1x1) ![0, 0] ![1, 1] h, w⟩ :: L)) = w :=
  View.read_writes_full v f (off := ![0, 0]) h w L

/-- The load of the word just stored whole. -/
theorem load_stored [∀ e, Nonempty (Elt F e)] {κ : Kind} {sp : Space} (v : View sig κ sp S1x1 .f32) (h h' : ∀ a, (![0, 0] : Fin 2 → ℕ) a + (![1, 1] : Fin 2 → ℕ) a ≤ S1x1.size a)
    (w : (Rect.unit (s := S1x1) ![0, 0] ![1, 1] h).shape.Idx → Elt F .f32) (L : List (View.Piece (Elt F) S1x1 .f32)) :
    v.readCov (⟨Rect.unit (s := S1x1) ![0, 0] ![1, 1] h, w⟩ :: L) (Rect.unit (s := S1x1) ![0, 0] ![1, 1] h').toLoadRect = w :=
  View.readCov_full v (off := ![0, 0]) (off' := ![0, 0]) h' h w L

/-- A whole store of a block of 1024 indices leaves its payload. -/
theorem store_block {κ : Kind} {sp : Space} (v : View sig κ sp S1024 .i32) (f : v.ty.Contents (Elt F)) (h : ∀ a, (![0] : Fin 1 → ℕ) a + (![1024] : Fin 1 → ℕ) a ≤ S1024.size a)
    (w : (Rect.unit (s := S1024) ![0] ![1024] h).shape.Idx → Elt F .i32) (L : List (View.Piece (Elt F) S1024 .i32)) :
    v.read (Elt F) (v.writes (Elt F) f (⟨Rect.unit (s := S1024) ![0] ![1024] h, w⟩ :: L)) = w :=
  View.read_writes_full v f (off := ![0]) h w L

/-- What the body leaves in the one-word buffer at the first point: the running sum started from zero; -/
def word_A (x0 : Vec F S1024x1 .f32) (x1 : Vec F S1x8192 .f32) (x3 : Vec F S1024x64 .f32) (x4 : Vec F S8192x64 .f32) : Vec F S1x1 .f32 :=
  fun _ => sumOf x0 x1 x3 x4 (Scalar.ofBits .f32 0x00000000#32)
/-- at a point between: the sum carried on; -/
def word_B (x0 : Vec F S1024x1 .f32) (x1 : Vec F S1x8192 .f32) (x3 : Vec F S1024x64 .f32) (x4 : Vec F S8192x64 .f32) (a : Vec F S1x1 .f32) : Vec F S1x1 .f32 :=
  fun _ => sumOf x0 x1 x3 x4 (a o11)
/-- at the last point: the whole sum divided by the number of entries. -/
def word_C (x0 : Vec F S1024x1 .f32) (x1 : Vec F S1x8192 .f32) (x3 : Vec F S1024x64 .f32) (x4 : Vec F S8192x64 .f32) (a : Vec F S1x1 .f32) : Vec F S1x1 .f32 :=
  fun _ => k0_pay3 (sumOf x0 x1 x3 x4 (a o11))

set_option maxHeartbeats 2000000 in
/-- The body at the first point: on whole staging buffers, the inputs' at their blocks. -/
theorem body_A [∀ e, Nonempty (Elt F e)] (c : Dev nD) (i : grid0.Coords) (arg1 : Memref sig .tc .vmem S1024x1 .f32) (harg1 : arg1.IsWhole) (arg2 : Memref sig .tc .vmem S1x8192 .f32) (harg2 : arg2.IsWhole) (arg3 : Memref sig .tc .vmem S1x4096 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S1024 .i32) (harg6 : arg6.IsWhole) (arg7 : Memref sig .tc .smem S1x1 .f32) (harg7 : arg7.IsWhole) (hc0 : cond0_0 i) (hc1 : ¬cond0_1 i)
    (x0 : Vec F S1024x1 .f32) (x1 : Vec F S1x8192 .f32) (x2 : Vec F S1x4096 .f32) (x3 : Vec F S1024x64 .f32) (x4 : Vec F S8192x64 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (idxOf x0 x1 x2 x3 x4) ∗ owns (c : Thread nD τ) arg7 fullShare (word_A x0 x1 x3 x4)) -∗ Q ⟨⟩))
      ⊢ wp frame (wpE (defs₀ (F := F)) Variants.none c none) E (cc0__dist_argmin_body i arg1 harg1 arg2 harg2 arg3 harg3 arg4 harg4 arg5 harg5 arg6 harg6 arg7 harg7) Q := by
  simp only [cc0__dist_argmin_body_eq_skeleton]; unfold cc0__dist_argmin_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (store_block _ _ _ _ _).trans ?_
    unfold idxOf body_A.sl.r_1 body_A.sl.r_3 body_A.sl.r_4
    simp only [load_S1024x1, load_S1x8192, load_S1x4096, load_S1024x64, load_S8192x64, hf0, hf1, hf2, hf3, hf4]
  iexists _; isplitr
  swap; · iexact H6
  ipureintro
  refine (store_word _ _ _ _ _).trans ?_
  funext y
  unfold word_A sumOf body_A.sl.r body_A.sl.r_2 body_A.sl.r_4 body_A.sl.r_6
  simp only [load_S1024x1, load_S1x8192, load_S1x4096, load_S1024x64, load_S8192x64, load_word, load_stored, hf0, hf1, hf3, hf4]

set_option maxHeartbeats 2000000 in
/-- The body at a point between: on whole staging buffers, the inputs' at their blocks. -/
theorem body_B [∀ e, Nonempty (Elt F e)] (c : Dev nD) (i : grid0.Coords) (arg1 : Memref sig .tc .vmem S1024x1 .f32) (harg1 : arg1.IsWhole) (arg2 : Memref sig .tc .vmem S1x8192 .f32) (harg2 : arg2.IsWhole) (arg3 : Memref sig .tc .vmem S1x4096 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S1024 .i32) (harg6 : arg6.IsWhole) (arg7 : Memref sig .tc .smem S1x1 .f32) (harg7 : arg7.IsWhole) (hc0 : ¬cond0_0 i) (hc1 : ¬cond0_1 i)
    (x0 : Vec F S1024x1 .f32) (x1 : Vec F S1x8192 .f32) (x2 : Vec F S1x4096 .f32) (x3 : Vec F S1024x64 .f32) (x4 : Vec F S8192x64 .f32) (xo6 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (idxOf x0 x1 x2 x3 x4) ∗ owns (c : Thread nD τ) arg7 fullShare (word_B x0 x1 x3 x4 xo6)) -∗ Q ⟨⟩))
      ⊢ wp frame (wpE (defs₀ (F := F)) Variants.none c none) E (cc0__dist_argmin_body i arg1 harg1 arg2 harg2 arg3 harg3 arg4 harg4 arg5 harg5 arg6 harg6 arg7 harg7) Q := by
  simp only [cc0__dist_argmin_body_eq_skeleton]; unfold cc0__dist_argmin_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (store_block _ _ _ _ _).trans ?_
    unfold idxOf body_B.sl.r_1 body_B.sl.r_3 body_B.sl.r_4
    simp only [load_S1024x1, load_S1x8192, load_S1x4096, load_S1024x64, load_S8192x64, hf0, hf1, hf2, hf3, hf4]
  iexists _; isplitr
  swap; · iexact H6
  ipureintro
  refine (store_word _ _ _ _ _).trans ?_
  funext y
  unfold word_B sumOf body_B.sl.r body_B.sl.r_2 body_B.sl.r_4 body_B.sl.r_5
  simp only [load_S1024x1, load_S1x8192, load_S1x4096, load_S1024x64, load_S8192x64, load_word, load_stored, hf0, hf1, hf3, hf4, hf6]

set_option maxHeartbeats 2000000 in
/-- The body at the last point: on whole staging buffers, the inputs' at their blocks. -/
theorem body_C [∀ e, Nonempty (Elt F e)] (c : Dev nD) (i : grid0.Coords) (arg1 : Memref sig .tc .vmem S1024x1 .f32) (harg1 : arg1.IsWhole) (arg2 : Memref sig .tc .vmem S1x8192 .f32) (harg2 : arg2.IsWhole) (arg3 : Memref sig .tc .vmem S1x4096 .f32) (harg3 : arg3.IsWhole) (arg4 : Memref sig .tc .vmem S1024x64 .f32) (harg4 : arg4.IsWhole) (arg5 : Memref sig .tc .vmem S8192x64 .f32) (harg5 : arg5.IsWhole) (arg6 : Memref sig .tc .vmem S1024 .i32) (harg6 : arg6.IsWhole) (arg7 : Memref sig .tc .smem S1x1 .f32) (harg7 : arg7.IsWhole) (hc0 : ¬cond0_0 i) (hc1 : cond0_1 i)
    (x0 : Vec F S1024x1 .f32) (x1 : Vec F S1x8192 .f32) (x2 : Vec F S1x4096 .f32) (x3 : Vec F S1024x64 .f32) (x4 : Vec F S8192x64 .f32) (xo6 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (idxOf x0 x1 x2 x3 x4) ∗ owns (c : Thread nD τ) arg7 fullShare (word_C x0 x1 x3 x4 xo6)) -∗ Q ⟨⟩))
      ⊢ wp frame (wpE (defs₀ (F := F)) Variants.none c none) E (cc0__dist_argmin_body i arg1 harg1 arg2 harg2 arg3 harg3 arg4 harg4 arg5 harg5 arg6 harg6 arg7 harg7) Q := by
  simp only [cc0__dist_argmin_body_eq_skeleton]; unfold cc0__dist_argmin_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (store_block _ _ _ _ _).trans ?_
    unfold idxOf body_C.sl.r_1 body_C.sl.r_3 body_C.sl.r_4
    simp only [load_S1024x1, load_S1x8192, load_S1x4096, load_S1024x64, load_S8192x64, hf0, hf1, hf2, hf3, hf4]
  iexists _; isplitr
  swap; · iexact H6
  ipureintro
  refine (store_word _ _ _ _ _).trans ?_
  funext y
  unfold word_C sumOf body_C.sl.r_6 body_C.sl.r body_C.sl.r_2 body_C.sl.r_4 body_C.sl.r_5
  simp only [load_S1024x1, load_S1x8192, load_S1x4096, load_S1024x64, load_S8192x64, load_word, load_stored, hf0, hf1, hf3, hf4, hf6]

end Cert.Proof.KernelIdeal

end
-- ==== Proof.KernelIdeal.Region.lean ====
/- The TensorCore kernel's body at one grid point: what it leaves in its two output buffers. -/
module

public import proofs.«01_k».proof.Proof.KernelIdeal.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! # The first call: the pipeline's proof data at a memory, and the call as a step of @main -/

/-- The contents of every buffer of the device at one moment. -/
abbrev Vals (F : FTy → Type) : Type := Valuation τ sig (Elt F)

/-- Window `w`'s block at point `t`, read from its array at `V`. -/
def iblk (V : Vals F) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The indices the body leaves for the rows of point `t`. -/
def idxAt (V : Vals F) (t : Fin cfg0.N) : Vec F S1024 .i32 :=
  idxOf (iblk V 0 t) (iblk V 1 t) (iblk V 2 t) (iblk V 3 t) (iblk V 4 t)

/-- The one-word buffer after point `n`: the sum of the least distances so far, divided at the last point. -/
def wordAt (V : Vals F) : (n : ℕ) → n < cfg0.N → Vec F S1x1 .f32
  | 0, h => word_A (iblk V 0 ⟨0, h⟩) (iblk V 1 ⟨0, h⟩) (iblk V 3 ⟨0, h⟩) (iblk V 4 ⟨0, h⟩)
  | n + 1, h =>
    if n + 1 = 15 then word_C (iblk V 0 ⟨n + 1, h⟩) (iblk V 1 ⟨n + 1, h⟩) (iblk V 3 ⟨n + 1, h⟩) (iblk V 4 ⟨n + 1, h⟩) (wordAt V n (Nat.lt_of_succ_lt h))
    else word_B (iblk V 0 ⟨n + 1, h⟩) (iblk V 1 ⟨n + 1, h⟩) (iblk V 3 ⟨n + 1, h⟩) (iblk V 4 ⟨n + 1, h⟩) (wordAt V n (Nat.lt_of_succ_lt h))

theorem wordAt_A (V : Vals F) (t : Fin cfg0.N) (h : t.val = 0) :
    wordAt V t.val t.isLt = word_A (iblk V 0 t) (iblk V 1 t) (iblk V 3 t) (iblk V 4 t) := by
  obtain ⟨n, hn⟩ := t
  cases n with
  | zero => rfl
  | succ n => exact absurd h (Nat.succ_ne_zero n)

theorem wordAt_B (V : Vals F) (t : Fin cfg0.N) (h0 : t.val ≠ 0) (h1 : t.val ≠ 15) :
    wordAt V t.val t.isLt = word_B (iblk V 0 t) (iblk V 1 t) (iblk V 3 t) (iblk V 4 t) (wordAt V (t.val - 1) (Nat.lt_of_le_of_lt (Nat.sub_le _ _) t.isLt)) := by
  obtain ⟨n, hn⟩ := t
  cases n with
  | zero => exact absurd rfl h0
  | succ n => exact if_neg h1

theorem wordAt_C (V : Vals F) (t : Fin cfg0.N) (h1 : t.val = 15) :
    wordAt V t.val t.isLt = word_C (iblk V 0 t) (iblk V 1 t) (iblk V 3 t) (iblk V 4 t) (wordAt V (t.val - 1) (Nat.lt_of_le_of_lt (Nat.sub_le _ _) t.isLt)) := by
  obtain ⟨n, hn⟩ := t
  cases n with
  | zero => exact absurd (show 0 = 15 from h1) (by decide)
  | succ n => exact if_pos h1

/-- The pairs a TensorCore has waited on so far: at the handshakes' lowest level. -/
abbrev low (c : Dev nD) : Set (SemLoc sig × HIx 1) := {p | (K (F := F)).lev (T c, p.1) p.2 ≤ 8 * SparseCore.Cfg.Blocks.fst (Q := 1) (N := 1) 0}

/-- The pipeline's proof data on core `c`: the arrays at `V`; after the body at a point each input's buffer at its block and the outputs'
    at what the body leaves; the core owing the second call's start signals throughout. -/
def dat (V : Vals F) (c : Dev nD) : Dat τ (Elt F) (HIx 1) ℕ UU ℕ cfg0 c where
  A w := V (Proc.devRef .tc (Pipeline.arrRef spec0 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => idxAt V t
    | ⟨6, _⟩ => wordAt V t.val t.isLt
  Φ _ := Pipeline.scopedRest spec0 c
  q _ := fullShare
  owed _ := (K (F := F)).Otc c 0
  recorded _ := low (F := F) c

theorem A_eq (V : Vals F) (c : Dev nD) (w : Fin cfg0.W) : (dat V c).A w = V (Proc.devRef .tc (Pipeline.arrRef spec0 w)) := by
  dsimp only [dat]

theorem after_0 (V : Vals F) (c : Dev nD) (t : Fin cfg0.N) : (dat V c).after 0 t = iblk V 0 t := by dsimp only [dat]
theorem after_1 (V : Vals F) (c : Dev nD) (t : Fin cfg0.N) : (dat V c).after 1 t = iblk V 1 t := by dsimp only [dat]
theorem after_2 (V : Vals F) (c : Dev nD) (t : Fin cfg0.N) : (dat V c).after 2 t = iblk V 2 t := by dsimp only [dat]
theorem after_3 (V : Vals F) (c : Dev nD) (t : Fin cfg0.N) : (dat V c).after 3 t = iblk V 3 t := by dsimp only [dat]
theorem after_4 (V : Vals F) (c : Dev nD) (t : Fin cfg0.N) : (dat V c).after 4 t = iblk V 4 t := by dsimp only [dat]
theorem after_5 (V : Vals F) (c : Dev nD) (t : Fin cfg0.N) : (dat V c).after 5 t = idxAt V t := by dsimp only [dat]
theorem after_6 (V : Vals F) (c : Dev nD) (t : Fin cfg0.N) : (dat V c).after 6 t = wordAt V t.val t.isLt := by dsimp only [dat]

/-! An input's staging buffer holds its block at every point, fetched there or kept. -/

theorem before_0 (V : Vals F) (c : Dev nD) (t : Fin cfg0.N) (d) : (dat V c).before 0 t d = iblk V 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (V : Vals F) (c : Dev nD) (t : Fin cfg0.N) (d) : (dat V c).before 1 t d = iblk V 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (V : Vals F) (c : Dev nD) (t : Fin cfg0.N) (d) : (dat V c).before 2 t d = iblk V 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (V : Vals F) (c : Dev nD) (t : Fin cfg0.N) (d) : (dat V c).before 3 t d = iblk V 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (V : Vals F) (c : Dev nD) (t : Fin cfg0.N) (d) : (dat V c).before 4 t d = iblk V 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-- After the first point the one-word buffer holds what the body left at the point before: it is written back at the last point only. -/
theorem before_6 (V : Vals F) (c : Dev nD) (t : Fin cfg0.N) (h0 : t.val ≠ 0) (d) :
    (dat V c).before 6 t d = wordAt V (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dat]

/-- What the body is called with at point `t`, -/
def bodyPre (V : Vals F) (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (V : Vals F) (c : Dev nD) (t : Fin cfg0.N) : sProp 𝕄 :=
  iprop((dat V c).Φ t.succ ∗ (dat V c).owesAt none t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

set_option maxHeartbeats 1200000 in
/-- The body at any point: the invariant and the debts pass through. -/
theorem body_sound [∀ e, Nonempty (Elt F e)] (V : Vals F) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt none t.succ = (dat V c).owesAt none t.castSucc from rfl,
    after_0, after_1, after_2, after_3, after_4, after_5, after_6]
  have hN : t.val < 16 := lt_of_lt_of_eq t.isLt (show cfg0.N = 16 from N_0)
  have e0 := hcond0_0 t
  have e1 := hcond0_1 t
  by_cases h0 : t.val = 0
  · rw [wordAt_A V t h0]; unfold idxAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_A c (grid0.coords t) _ _ _ _ _ _ _ _ _ _ _ _ _ _ (e0.mpr (by omega)) (fun h => by have := e1.mp h; omega) (iblk V 0 t) (iblk V 1 t) (iblk V 2 t) (iblk V 3 t) (iblk V 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val = 15
    · rw [wordAt_C V t h1]; unfold idxAt
      simp only [before_6 V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (body_C c (grid0.coords t) _ _ _ _ _ _ _ _ _ _ _ _ _ _ (fun h => h0 (by have := e0.mp h; omega)) (e1.mpr (by omega)) (iblk V 0 t) (iblk V 1 t) (iblk V 2 t) (iblk V 3 t) (iblk V 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [wordAt_B V t h0 h1]; unfold idxAt
      simp only [before_6 V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (body_B c (grid0.coords t) _ _ _ _ _ _ _ _ _ _ _ _ _ _ (fun h => h0 (by have := e0.mp h; omega)) (fun h => h1 (by have := e1.mp h; omega)) (iblk V 0 t) (iblk V 1 t) (iblk V 2 t) (iblk V 3 t) (iblk V 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The pipeline's row of the body table at point `t`. -/
theorem row (t : Fin cfg0.N) : defs₀ (F := F) .tc cfg0.body (cfg0.bodyArgs t (cfg0.slots t)) = bodyAt0 t := by
  rfl

/-- The body obligation at every point. -/
theorem body_obligation [∀ e, Nonempty (Elt F e)] (V : Vals F) (c : Dev nD) : BodyObligation (dat V c) (defs₀ (F := F)) Variants.none none Set.univ := fun t => by
  rw [bigSep_W0, bigSep_W0, row]
  exact triple_restated (body_sound V c t) rfl .rfl fun _ => .rfl

end Cert.Proof.KernelIdeal

end
-- ==== Proof.KernelIdeal.Call.lean ====
/- The TensorCore kernel's body at one grid point: what it leaves in its two output buffers. -/
module

public import proofs.«01_k».proof.Proof.KernelIdeal.Region

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! # The first call as one step of @main -/

/-- Nothing is prefetched. -/
abbrev adm : (p : Fin 1) → (pcfgs (F := F) p).Adm := fun p => (cfgs p).toPCfg_adm

/-- The proof data of the one pipeline. -/
abbrev dats (V : Vals F) : (p : Fin 1) → (c : Dev nD) → Dat τ (Elt F) (HIx 1) ℕ UU ℕ (Pipeline.pin (pcfgs (F := F)) adm p) c
  | 0 => dat V

/-- Every buffer's contents after the first call: the windows' arrays as the pipeline leaves them. -/
def afterCall (V : Vals F) (c : Dev nD) : Vals F := Pipeline.afterRegion (dat V c) V

theorem Otc_none (c : Dev nD) (g : GSem nD τ sig) : (K (F := F)).Otc c 0 g none = 0 := by
  rcases Nat.eq_zero_or_pos ((K (F := F)).Otc c 0 g none) with h | h
  · exact h
  · exact absurd ((K (F := F)).lev_of_Otc_pos h) (Nat.not_succ_le_zero _)

/-- What the TensorCore owes and has waited on, before the second call. -/
abbrev debts (c : Dev nD) : sProp 𝕄 :=
  iprop(∃ W, ⌜(K (F := F)).WBelow (T c) W (8 * SparseCore.Cfg.Blocks.fst (Q := 1) (N := 1) 0)⌝ ∗ owes (T c) ((K (F := F)).Otc c 0) W)

/-- The first call: entered with every unscoped buffer at `V`, left with them at `afterCall V`. -/
def callSeg [∀ e, Nonempty (Elt F e)] (V : Vals F) :
    Pipeline.RegionSeg (pcfgs (F := F)) adm (dats V) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation V c).loose
  hwaits c := Pipeline.cellsWaits_of_cut (Pipeline.pin (pcfgs (F := F)) adm) (dats V) none 0 c 0 ((K (F := F)).Otc c 0) (fun _ => rfl)
    (fun _ _ => Finset.mem_univ _) (fun _ _ => le_rfl)
    (fun g i h => ⟨Finset.mem_univ _, by
      cases i with
      | none => rw [Otc_none] at h; exact absurd h (Nat.lt_irrefl 0)
      | some q => exact (K (F := F)).lev_some_pos g q⟩)
  pre c := iprop(StableHlo.held (c.tc : Thread nD τ) (Pipeline.ucRefs τ sig) V ∗ debts c)
  post c := iprop(StableHlo.held (c.tc : Thread nD τ) (Pipeline.ucRefs τ sig) (afterCall V c) ∗ debts c)
  X _ := BI.emp
  Y _ := BI.emp
  Z c := StableHlo.held (c.tc : Thread nD τ) (Pipeline.ucRefs τ sig \ Pipeline.arrRefs spec0) V
  hentry c := by
    rw [Pipeline.ownSems0_none, Pipeline.prefHeld_of_none _ rfl,
      StableHlo.held_sub_split (c.tc : Thread nD τ) (Pipeline.arrRefs_sub_ucRefs spec0 winFacts0.arr_unscoped) V,
      Pipeline.arrays_held pcfgs adm (dats V) 0 launch0.toP c (fun w => by fin_cases w <;> rfl) ((dats V 0 c).arrAt · 0) V (fun w => A_eq V c w)]
    iintro ⟨⟨⟨Ha, Hz⟩, HO⟩, -, -⟩
    imodintro
    isplitl [Ha]; · iexact Ha
    isplitr; · iempintro
    isplitl [HO]
    · icases HO with ⟨%W, %hW, HO⟩
      iexists W
      isplitr
      · ipureintro; exact fun p hp => Or.inl (hW p hp)
      iexact HO
    isplitr; · iempintro
    iexact Hz
  hin c := (show _ ⊢ Pipeline.scopedRest spec0 c from by
    iintro ⟨-, -, H⟩
    iexact H)
  hout c := by
    rw [Pipeline.ownSems0_none]
    refine (show _ ⊢ (Pipeline.scopedRest spec0 c : sProp 𝕄) from .rfl).trans ?_
    iintro H
    isplitr; · iempintro
    isplitr; · iempintro
    iexact H
  hexit c := by
    rw [Pipeline.arrays_held pcfgs adm (dats V) 0 launch0.toP c (fun w => by fin_cases w <;> rfl) ((dats V 0 c).arrAt · (Pipeline.pin (pcfgs (F := F)) adm 0).N) (afterCall V c)
        (fun w => (Pipeline.afterRegion_arr (dat V c) V winFacts0.arr_inj w).symm),
      StableHlo.held_sub_split (c.tc : Thread nD τ) (Pipeline.arrRefs_sub_ucRefs spec0 winFacts0.arr_unscoped) (afterCall V c),
      show StableHlo.held (c.tc : Thread nD τ) (Pipeline.ucRefs τ sig \ Pipeline.arrRefs spec0) (afterCall V c)
        = (StableHlo.held (c.tc : Thread nD τ) (Pipeline.ucRefs τ sig \ Pipeline.arrRefs spec0) V : sProp 𝕄) from
        StableHlo.held_congr _ (Pipeline.afterRegion_off (dat V c) V _)]
    iintro ⟨Ha, ⟨%W, %hW, HO⟩, -, Hz⟩
    imodintro
    isplitl [Ha Hz]
    · isplitl [Ha]; · iexact Ha
      iexact Hz
    iexists W
    isplitr
    · ipureintro
      intro p hp
      rcases hW hp with h | ⟨w, s, h⟩
      · exact h
      · subst h; exact Nat.zero_le _
    iexact HO

end Cert.Proof.KernelIdeal

end
-- ==== Proof.KernelIdeal.Tile.lean ====
/- The SparseCore call: what its tasks are handed and bring back, and one task's run. -/
module

public import proofs.«01_k».proof.Proof.KernelIdeal.Call
public import Idealize.ShloMosaic.Lib.SparseCore.Stream
public import Idealize.ShloMosaic.Lib.SparseCore.Ops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! ## Names -/

local notation "iV" => (Memref.whole main_v10_0_scv : Memref sig Kind.scVector Space.hbm S16384 EltTy.i32)
local notation "xV" => (Memref.whole main_v13_scv : Memref sig Kind.scVector Space.hbm S8192x128 EltTy.f32)
local notation "oV" => (Memref.whole main_v14_scv : Memref sig Kind.scVector Space.hbm S16384x128 EltTy.f32)
local notation "sV" => (Memref.whole cc1_scratch0 : Memref sig Kind.scVector Space.vmem S512 EltTy.i32)
local notation "rV" => (Memref.whole cc1_scratch1 : Memref sig Kind.scVector Space.vmem S512x128 EltTy.f32)

abbrev iLoc (d : Dev nD) : Loc nD τ sig := (SparseCore.T d).loc main_v10_0
abbrev xLoc (d : Dev nD) : Loc nD τ sig := (SparseCore.T d).loc main_v13
abbrev oLoc (d : Dev nD) : Loc nD τ sig := (SparseCore.T d).loc main_v14

/-- The task's number among the 32: two tasks to each vector-subcore index. -/
def task (c : Fin 2) (i : Fin 16) : Fin 32 := ⟨2 * i.val + c.val, by omega⟩

theorem idiv : 32 ∣ S16384.size 0 := ⟨512, rfl⟩
theorem odiv : 32 ∣ S16384x128.size 0 := ⟨512, rfl⟩

/-- Task `w`'s 512 row numbers, and its 512 rows of the result. -/
abbrev iSet (w : Fin 32) : Finset S16384.Idx := ((iV).view.slice (Rect.part (s := S16384) (a₀ := 0) idiv w)).set
abbrev oSet (w : Fin 32) : Finset S16384x128.Idx := ((oV).view.slice (Rect.part (s := S16384x128) (a₀ := 0) odiv w)).set

/-- Task `w`'s share of the table. -/
abbrev xq (w : Fin 32) : PosShare TreeShare := pieceOf fullShare 32 (by decide) w

/-- Element (`n`, `k`) of the table. -/
def tableIdx (n : Fin 8192) (k : Fin 128) : S8192x128.Idx :=
  fun | 0 => n | 1 => k | ⟨_ + 2, h⟩ => absurd h (Nat.not_lt.2 (Nat.le_add_left _ _))

/-- Row number `n` of the list. -/
def listIdx (n : Fin 16384) : S16384.Idx :=
  fun | 0 => n | ⟨_ + 1, h⟩ => absurd h (Nat.not_lt.2 (Nat.le_add_left _ _))

/-- The gathered rows: row `n` of the result is the row of the table `X` that entry `n` of the list `I` names. -/
def gathered (I : S16384.Idx → Elt F .i32) (X : S8192x128.Idx → Elt F .f32) : S16384x128.Idx → Elt F .f32 := fun y =>
  X (tableIdx ⟨min (I (listIdx (y 0))).toNat 8191, by omega⟩ (y 1))

/-! ## What the handshakes carry -/

/-- The contents of the call's three operands as it begins, on each device. -/
structure Ops (F : FTy → Type) where
  I : (d : Dev nD) → Buf (Elt F) (iLoc d)
  X : (d : Dev nD) → Buf (Elt F) (xLoc d)
  O : (d : Dev nD) → Buf (Elt F) (oLoc d)

/-- What the call leaves in its result. -/
def Ops.G (B : Ops F) (d : Dev nD) : Buf (Elt F) (oLoc d) := gathered (B.I d) (B.X d)

/-- Every entry of the list names a row of the table. -/
def Ops.InRange (B : Ops F) : Prop := ∀ (d : Dev nD) (j : S16384.Idx), (B.I d j).toNat < 8192

variable (B : Ops F)

abbrev iPts (d : Dev nD) (w : Fin 32) : sProp 𝕄 := iLoc d ↦[iSet w]{fullShare} B.I d
abbrev xPts (d : Dev nD) (w : Fin 32) : sProp 𝕄 := xLoc d ↦{xq w} B.X d
abbrev oPts (d : Dev nD) (w : Fin 32) (f : Buf (Elt F) (oLoc d)) : sProp 𝕄 := oLoc d ↦[oSet w]{fullShare} f

/-- What task `w` takes, and what it brings back. -/
abbrev goT (d : Dev nD) (w : Fin 32) : sProp 𝕄 := iprop(iPts B d w ∗ xPts B d w ∗ oPts d w (B.O d))
abbrev tdT (d : Dev nD) (w : Fin 32) : sProp 𝕄 := iprop(iPts B d w ∗ xPts B d w ∗ oPts d w (B.G d))

theorem nCore_zero : (K (F := F)).nCore 0 = 2 := rfl
theorem nSub_zero : (K (F := F)).nSub 0 = 16 := rfl

abbrev taskK (c : Fin ((K (F := F)).nCore 0)) (i : Fin ((K (F := F)).nSub 0)) : Fin 32 := task (Fin.cast nCore_zero c) (Fin.cast nSub_zero i)

/-- Each task takes its row numbers, a share of the table and its rows of the result; a SparseCore takes its tasks'. -/
def P : (K (F := F)).Pay (nD := nD) (Val := Elt F) (Name := ℕ) (U := UU) where
  st := fun q d c => match q with | 0 => bigSep Finset.univ fun i => goT B d (taskK c i)
  dn := fun q d c => match q with | 0 => bigSep Finset.univ fun i => tdT B d (taskK c i)
  go := fun q d c i => match q with | 0 => goT B d (taskK c i)
  td := fun q d c i => match q with | 0 => tdT B d (taskK c i)
  x := fun _ _ => iprop(BI.emp)

instance P_storable : (P B).IsStorable where
  st q d c := match q with
    | 0 => (inferInstance : BI.Storable (upEmb : UEmb _ 𝕄) (bigSep Finset.univ fun i => goT B d (taskK c i)))
  dn q d c := match q with
    | 0 => (inferInstance : BI.Storable (upEmb : UEmb _ 𝕄) (bigSep Finset.univ fun i => tdT B d (taskK c i)))
  go q d c i := match q with | 0 => (inferInstance : BI.Storable (upEmb : UEmb _ 𝕄) (goT B d (taskK c i)))
  td q d c i := match q with | 0 => (inferInstance : BI.Storable (upEmb : UEmb _ 𝕄) (tdT B d (taskK c i)))

theorem vecSplit : (K (F := F)).VecSplit' (P B) 0 := by
  intro d c
  show (bigSep Finset.univ fun i => goT B d (taskK c i)) ⊢ |={Set.univ}=> iprop(
      (bigSep Finset.univ fun i => goT B d (taskK c i))
      ∗ ((bigSep Finset.univ fun i => tdT B d (taskK c i)) -∗ (bigSep Finset.univ fun i => tdT B d (taskK c i))))
  iintro H; imodintro
  isplitl [H]; · iexact H
  iintro H; iexact H

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev taskL (L : grid1.Coords) : Fin 32 := task (Fin.cast bound_zero (L 0)) (Fin.cast bound_one (L 1))

abbrev irowK (L : grid1.Coords) : Rect S16384 := Rect.unit (s := S16384) (k1_off1 L) S512.size (k1_off1_inb L)
abbrev orowK (L : grid1.Coords) : Rect S16384x128 := Rect.unit (s := S16384x128) (k1_off2 L) S512x128.size (k1_off2_inb L)
abbrev iRowK (L : grid1.Coords) : Memref sig .scVector .hbm S512 .i32 := (iV).slice (irowK L) (fun _ => rfl)
abbrev oRowK (L : grid1.Coords) : Memref sig .scVector .hbm S512x128 .f32 := (oV).slice (orowK L) (fun _ => rfl)
abbrev xAllK : Memref sig .scVector .hbm S8192x128 .f32 :=
  (xV).slice (Rect.unit (s := S8192x128) ![0, 0] S8192x128.size inb_S8192x128_S8192x128_0_0) (fun _ => rfl)

theorem irowK_eq : irowK L = Rect.part (s := S16384) (a₀ := 0) idiv (taskL L) := by
  unfold irowK Rect.part Rect.block
  congr 1 <;> funext a
  · rw [k1_off1_eq]
    match a with
    | 0 => simp [Shape.partIx, Shape.partSize, task]; show 1024 * (L 1).val + 512 * (L 0).val = (2 * (L 1).val + (L 0).val) * 512; omega
  · match a with
    | 0 => simp [Shape.partSize]
theorem orowK_eq : orowK L = Rect.part (s := S16384x128) (a₀ := 0) odiv (taskL L) := by
  unfold orowK Rect.part Rect.block
  congr 1 <;> funext a
  · rw [k1_off2_eq]
    match a with
    | 0 => simp [Shape.partIx, Shape.partSize, task]; show 1024 * (L 1).val + 512 * (L 0).val = (2 * (L 1).val + (L 0).val) * 512; omega
    | 1 => simp [Shape.partIx, Shape.partSize]
  · match a with
    | 0 => simp [Shape.partSize]
    | 1 => simp [Shape.partSize]

theorem set_iRowK : (iRowK L).view.set = iSet (taskL L) := by
  show ((iV).view.slice (irowK L)).set = _
  exact irowK_eq L ▸ rfl
theorem set_oRowK : (oRowK L).view.set = oSet (taskL L) := by
  show ((oV).view.slice (orowK L)).set = _
  exact orowK_eq L ▸ rfl

theorem pts_iRowK (f : Buf (Elt F) (iLoc d)) :
    ((iRowK L).view.loc (V d (cV L) (jV L)) ↦[(iRowK L).view.set]{fullShare} f : sProp 𝕄) = iLoc d ↦[iSet (taskL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (taskL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scratch2.sem)
abbrev cC (d : Dev nD) (c : Fin τ.nSC) (i : Fin τ.nSub) : GSem nD τ sig := (V d c i, .dma cc1_scoped1.sem)

theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

/-- The two scratch buffers, at some contents, and the rest of the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The list a task fetched, and the rows it names -/

/-- The contents of the task's row-number scratch after the fetch. -/
abbrev fetched (fs : Buf (Elt F) ((V d (cV L) (jV L)).loc cc1_scratch0)) : Buf (Elt F) ((V d (cV L) (jV L)).loc cc1_scratch0) :=
  View.write (Elt F) (sV).view fs ((iRowK L).view.read (Elt F) (B.I d)) Finset.univ

theorem read_fetched (fs : Buf (Elt F) ((V d (cV L) (jV L)).loc cc1_scratch0)) (x : S512.Idx) :
    (sV).view.read (Elt F) (fetched B d L fs) x = B.I d ((iRowK L).view.emb x) := by
  unfold fetched
  rw [View.write_whole_univ]
  simp only [Memref.view_whole, View.read_whole]
  exact (View.read_apply _ _).trans (cast_eq _ _)

theorem fetched_inRange (hB : B.InRange) (fs : Buf (Elt F) ((V d (cV L) (jV L)).loc cc1_scratch0)) :
    ∀ x, ((sV).view.read (Elt F) (fetched B d L fs) x).toNat < S8192x128.size gathers_S8192x128_S512x128.axis := by
  intro x; rw [read_fetched]; exact hB d _

/-- What the gather lands in the task's row scratch: the rows of the table its fetched list names. -/
abbrev rowsOf (hB : B.InRange) (fs : Buf (Elt F) ((V d (cV L) (jV L)).loc cc1_scratch0)) : S512x128.Idx → Elt F .f32 :=
  SparseCore.gatherPayload gathers_S8192x128_S512x128 ((xAllK).view.read (Elt F) (B.X d))
    (SparseCore.rows ((sV).view.read (Elt F) (fetched B d L fs)) rfl (fetched_inRange B d L hB fs))

theorem unit_emb_val {s : Shape} {off sz : Fin s.rank → ℕ} (inb : ∀ a, off a + sz a ≤ s.size a) (x : (Rect.unit off sz inb).shape.Idx) (a : Fin s.rank) :
    ((Rect.unit off sz inb).emb x a).val = off a + (x a).val := by
  show off a + 1 * (x a).val = _; rw [Nat.one_mul]

theorem irowK_emb (x : S512.Idx) : (((irowK L).emb x) 0).val = 1024 * (L 1).val + 512 * (L 0).val + (x 0).val := by
  rw [show ((irowK L).emb x 0).val = k1_off1 L 0 + (x 0).val from unit_emb_val _ _ _, k1_off1_eq]; rfl

theorem orowK_emb0 (x : S512x128.Idx) : (((orowK L).emb x) 0).val = 1024 * (L 1).val + 512 * (L 0).val + (x 0).val := by
  rw [show ((orowK L).emb x 0).val = k1_off2 L 0 + (x 0).val from unit_emb_val _ _ _, k1_off2_eq]; rfl

theorem orowK_emb1 (x : S512x128.Idx) : (((orowK L).emb x) 1).val = (x 1).val := by
  rw [show ((orowK L).emb x 1).val = k1_off2 L 1 + (x 1).val from unit_emb_val _ _ _, k1_off2_eq]; exact Nat.zero_add _

theorem listIdx_emb (x : S512.Idx) (j : S512x128.Idx) (h : (x 0).val = (j 0).val) : (irowK L).emb x = listIdx ((orowK L).emb j 0) := by
  funext a
  match a with
  | 0 => exact Fin.ext (by rw [irowK_emb]; show _ = ((orowK L).emb j 0).val; rw [orowK_emb0, h])

/-- The row the gather names for an element of the scratch is the list's entry for the element's row. -/
theorem rows_val (hB : B.InRange) (fs : Buf (Elt F) ((V d (cV L) (jV L)).loc cc1_scratch0)) (j : S512x128.Idx) :
    (SparseCore.rows (o := 512) (z := 8192) ((sV).view.read (Elt F) (fetched B d L fs)) rfl (fetched_inRange B d L hB fs) (j 0)).val
      = (B.I d (listIdx ((orowK L).emb j 0))).toNat := by
  unfold SparseCore.rows
  show ((sV).view.read (Elt F) (fetched B d L fs) _).toNat = _
  rw [read_fetched]
  refine congrArg (fun z => (B.I d z).toNat) (listIdx_emb L _ j ?_)
  exact (Shape.rowMajor_val_one _).symm.trans (congrArg Fin.val (Equiv.apply_symm_apply S512.rowMajor _))

theorem rowsOf_apply (hB : B.InRange) (fs : Buf (Elt F) ((V d (cV L) (jV L)).loc cc1_scratch0)) (j : S512x128.Idx) :
    rowsOf B d L hB fs j = B.G d ((orowK L).emb j) := by
  unfold rowsOf SparseCore.gatherPayload
  refine ((View.read_apply _ _).trans (cast_eq _ _)).trans ?_
  show B.X d _ = B.X d _
  congr 1
  funext a
  have hv := rows_val B d L hB fs j
  have hr := hB d (listIdx ((orowK L).emb j 0))
  match a with
  | 0 =>
    apply Fin.ext
    refine (unit_emb_val _ _ _).trans ?_
    refine (Nat.zero_add _).trans ?_
    refine (congrArg Fin.val (gathers_S8192x128_S512x128.idx_axis _ j)).trans ?_
    refine hv.trans ?_
    show _ = min _ 8191
    omega
  | 1 =>
    apply Fin.ext
    refine (unit_emb_val _ _ _).trans ?_
    refine (Nat.zero_add _).trans ?_
    refine (gathers_S8192x128_S512x128.idx_of_ne _ j 1 (by decide)).trans ?_
    exact (orowK_emb1 L j).symm

/-- The task's rows of the result, as it leaves them, are the gathered rows. -/
theorem landed (hB : B.InRange) (fs : Buf (Elt F) ((V d (cV L) (jV L)).loc cc1_scratch0)) (fr : Buf (Elt F) ((V d (cV L) (jV L)).loc cc1_scratch1)) :
    ∀ y ∈ (oRowK L).view.set,
      (oRowK L).view.writes (Elt F) (B.O d)
        [⟨Rect.whole S512x128, (rV).view.read (Elt F) (View.write (Elt F) (rV).view fr (rowsOf B d L hB fs) Finset.univ)⟩] y
        = B.G d y := by
  intro y hy
  obtain ⟨j, -, rfl⟩ := Finset.mem_map.mp hy
  rw [← View.write_univ_eq_writes_whole, View.read_write_univ]
  refine (View.write_emb_of_mem _ _ (Finset.mem_univ j)).trans ?_
  refine (cast_eq _ _).trans ?_
  exact rowsOf_apply B d L hB fs j

/-- The same, of what the task's run wrote there. -/
theorem landed_pts (hB : B.InRange) (fs : Buf (Elt F) ((V d (cV L) (jV L)).loc cc1_scratch0)) (fr : Buf (Elt F) ((V d (cV L) (jV L)).loc cc1_scratch1))
    (p : S512x128.Idx → Elt F .f32) (hp : p = (rV).view.read (Elt F) (View.write (Elt F) (rV).view fr (rowsOf B d L hB fs) Finset.univ)) :
    ((oRowK L).view.loc (V d (cV L) (jV L)) ↦[(oRowK L).view.set]{fullShare} (oRowK L).view.writes (Elt F) (B.O d) [⟨Rect.whole S512x128, p⟩] : sProp 𝕄)
      ⊢ oPts d (taskL L) (B.G d) := by
  subst hp
  exact (Entails.of_eq (pointsTo_congr (landed B d L hB fs fr))).trans (Entails.of_eq (pts_oRowK (F := F) d L _))

/-- Every row of the scratch moves the same number of units. -/
theorem row_credit (h : S8192x128.Gathers 0 S512x128) (j : Fin (S512x128.size h.axis')) :
    ((rV).slice (S512x128.rowRect h.axis' j) (S512x128.stride_rowRect h.axis' j)).view.dmaCredit
      = ((rV).slice (S512x128.rowRect (0 : Fin 2) (0 : Fin 512)) (S512x128.stride_rowRect (0 : Fin 2) (0 : Fin 512))).view.dmaCredit := rfl

set_option maxHeartbeats 4000000 in
/-- One task: the fetch of its row numbers, the gather of the rows they name, the write-out, each with its wait. -/
theorem tile_body (hF : (K (F := F)).Facts) (hB : B.InRange) (O : CellTallies nD τ sig (HIx 1)) (W : Waits sig (HIx 1)) (hO : ∀ g, O g none = 0) :
    iprop(levAts (K (F := F)).L (K (F := F)).lev ∗ BI.emp
        ∗ (iPts B d (taskL L) ∗ xPts B d (taskL L) ∗ oPts d (taskL L) (B.O d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L xV (Memref.isWhole_whole _) iV (Memref.isWhole_whole _) oV (Memref.isWhole_whole _)
            sV (Memref.isWhole_whole _) rV (Memref.isWhole_whole _) cc1_scratch2 cc1_scoped0 cc1_scoped1)
          fun _ => iprop((iPts B d (taskL L) ∗ xPts B d (taskL L) ∗ oPts d (taskL L) (B.G d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (taskL L)) (f := B.X d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 B d L) Finset.univ : sProp 𝕄)
      = (sV).view.loc (V d (cV L) (jV L)) ↦[(sV).view.set]{fullShare} fetched B d L fs
      by rw [hss]; rfl)) $$ Hs'
  have hN : ∀ h : S8192x128.Gathers 0 S512x128, ∑ j, ((rV).slice (S512x128.rowRect h.axis' j) (S512x128.stride_rowRect h.axis' j)).view.dmaCredit
      = (rV).view.dmaCredit := fun h => (Finset.sum_congr rfl fun j _ => (row_credit h j)).trans (by rw [Finset.sum_const, Finset.card_univ, Fintype.card_fin]; show (512 : ℕ) • _ = _; decide)
  iapply (SparseCore.wp_indirectGatherLocal countersEmb 𝒱₀ (V d (cV L) (jV L)) none (hg := gathers_S8192x128_S512x128) (default : HIx 1)
      (rV).view.dmaCredit (hN _) (by decide) (fetched_inRange B d L hB fs)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := xq (taskL L)) (f := B.X d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (landed_pts B d L hB fs fr _ ?_)
    swap; · iexact Ho'
    rfl
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation of the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hB : B.InRange) : (K (F := F)).TileObl (D (F := F)) 𝒱₁ (P B) v₀ 0 := by
  intro d c i O W hO _ _
  simp only [show (P B).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body B d (coordsV ⟨_, hci.1⟩ ⟨_, hci.2⟩) hF hB O W hO).trans (wp_mono frame _ _ fun _ => obl_post)

end Tile

end Cert.Proof.KernelIdeal

end
-- ==== Proof.KernelIdeal.Main.lean ====
/- @main on the TensorCore, and the whole program's run. -/
module

public import proofs.«01_k».proof.Proof.KernelIdeal.Tile

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-! ## The buffers' contents along @main -/

variable (m : (ℓ : Loc nD τ sig) → Buf (Elt F) ℓ) (ρ : Dev nD → PrngReg)

/-- At the launch; before the first call; after it; before the second call. -/
def V0 (d : Dev nD) : Vals F := fun b => m (d, b)
def V1 (d : Dev nD) : Vals F := StableHlo.after opsA (V0 m d)
def V2 (d : Dev nD) : Vals F := afterCall (V1 m d) d
def V3 (d : Dev nD) : Vals F := StableHlo.after opsB (V2 m d)

/-- The second call's operands. -/
def ops (m : (ℓ : Loc nD τ sig) → Buf (Elt F) ℓ) : Ops F where
  I d := V3 m d main_v10_0
  X d := V3 m d main_v13
  O d := V3 m d main_v14

/-- After the second call; at the end. -/
def V4 (d : Dev nD) : Vals F := Function.update (V3 m d) (Proc.devRef .tc main_v14) ((ops m).G d)
def V5 (d : Dev nD) : Vals F := StableHlo.after opsC (V4 m d)

/-! ## The second call's operands split among the tasks -/

theorem iSet_eq (w : Fin 32) : iSet w = (Rect.part (s := S16384) (a₀ := 0) idiv w).set := by
  show ((View.whole (main_v10_0_scv : Ref sig .scVector)).slice _).set = _
  rw [View.set_slice]; exact Finset.map_refl
theorem oSet_eq (w : Fin 32) : oSet w = (Rect.part (s := S16384x128) (a₀ := 0) odiv w).set := by
  show ((View.whole (main_v14_scv : Ref sig .scVector)).slice _).set = _
  rw [View.set_slice]; exact Finset.map_refl
theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iSet_cover : (Finset.univ : Finset (Fin 32)).biUnion iSet = Finset.univ :=
  (Finset.biUnion_congr rfl fun i _ => iSet_eq i).trans (Rect.biUnion_part idiv)
theorem oSet_cover : (Finset.univ : Finset (Fin 32)).biUnion oSet = Finset.univ :=
  (Finset.biUnion_congr rfl fun i _ => oSet_eq i).trans (Rect.biUnion_part odiv)

theorem list_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem result_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
theorem table_split (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- The tasks by SparseCore and vector subcore. -/
def taskEquiv : Fin 2 × Fin 16 ≃ Fin 32 := Equiv.ofBijective (fun p => task p.1 p.2) (by decide)

theorem all_tasks (Φ : Fin 32 → sProp 𝕄) :
    (bigSep Finset.univ fun c : Fin ((K (F := F)).nCore 0) => bigSep Finset.univ fun i : Fin ((K (F := F)).nSub 0) => Φ (taskK (F := F) c i))
      = bigSep Finset.univ Φ := by
  rw [bigSep_univ_equiv taskEquiv Φ]
  exact (bigSep_univ_prod (fun p : Fin 2 × Fin 16 => Φ (taskEquiv p))).symm

variable (B : Ops F)

/-- The second call's operands, as the call finds them: the result at `f`. -/
abbrev held3 (d : Dev nD) (f : Buf (Elt F) (oLoc d)) : sProp 𝕄 :=
  iprop((iLoc d ↦{fullShare} B.I d) ∗ (xLoc d ↦{fullShare} B.X d) ∗ oLoc d ↦{fullShare} f)

theorem shares_eq (d : Dev nD) (f : Buf (Elt F) (oLoc d)) :
    (bigSep Finset.univ fun w : Fin 32 => iprop(iPts B d w ∗ xPts B d w ∗ oPts d w f)) = held3 B d f := by
  rw [bigSep_sep', bigSep_sep']
  unfold held3
  rw [list_split, table_split, result_split]

theorem st_eq (d : Dev nD) : (bigSep Finset.univ fun c : Fin ((K (F := F)).nCore 0) => (P B).st 0 d c) = held3 B d (B.O d) :=
  (all_tasks (F := F) (fun w => goT B d w)).trans (shares_eq B d (B.O d))
theorem dn_eq (d : Dev nD) : (bigSep Finset.univ fun c : Fin ((K (F := F)).nCore 0) => (P B).dn 0 d c) = held3 B d (B.G d) :=
  (all_tasks (F := F) (fun w => tdT B d w)).trans (shares_eq B d (B.G d))

/-- The three buffers of the second call. -/
def refs3 : Finset (DevRef τ sig) := {(Proc.devRef .tc main_v10_0 : DevRef τ sig), Proc.devRef .tc main_v13, Proc.devRef .tc main_v14}

theorem refs3_sub : refs3 ⊆ Pipeline.ucRefs τ sig := by
  intro b hb
  simp only [refs3, Finset.mem_insert, Finset.mem_singleton] at hb
  rcases hb with rfl | rfl | rfl <;> exact Pipeline.devRef_mem_ucRefs rfl

theorem held_refs3 (d : Dev nD) (W : Vals F) :
    (StableHlo.held (d.tc : Thread nD τ) refs3 W : sProp 𝕄)
      = iprop((iLoc d ↦{fullShare} W main_v10_0) ∗ (xLoc d ↦{fullShare} W main_v13) ∗ oLoc d ↦{fullShare} W main_v14) := by
  unfold StableHlo.held refs3
  rw [SparseCore.bigSep_insert' (by decide), SparseCore.bigSep_insert' (by decide), bigSep_singleton]

theorem V4_ne (d : Dev nD) {b : Ref sig .tc} (hb : b ≠ main_v14) : V4 m d b = V3 m d b :=
  Function.update_of_ne (fun e => hb (Proc.devRef_injective _ e)) _ _
theorem V4_out (d : Dev nD) : V4 m d main_v14 = (ops m).G d := Function.update_self _ _ _

/-- The second call's operands out of all the buffers, and back at what the call left. -/
theorem held_V3 (d : Dev nD) : (StableHlo.held (d.tc : Thread nD τ) (Pipeline.ucRefs τ sig) (V3 m d) : sProp 𝕄)
    = iprop(held3 (ops m) d ((ops m).O d) ∗ StableHlo.held (d.tc : Thread nD τ) (Pipeline.ucRefs τ sig \ refs3) (V3 m d)) := by
  rw [StableHlo.held_sub_split _ refs3_sub, held_refs3]; rfl
theorem held_V4 (d : Dev nD) : (StableHlo.held (d.tc : Thread nD τ) (Pipeline.ucRefs τ sig) (V4 m d) : sProp 𝕄)
    = iprop(held3 (ops m) d ((ops m).G d) ∗ StableHlo.held (d.tc : Thread nD τ) (Pipeline.ucRefs τ sig \ refs3) (V3 m d)) := by
  rw [StableHlo.held_sub_split _ refs3_sub, held_refs3, V4_out, V4_ne m d (by decide), V4_ne m d (by decide)]
  rw [StableHlo.held_congr (V := V4 m d) (V' := V3 m d) (S := Pipeline.ucRefs τ sig \ refs3)]
  · rfl
  intro b hb
  refine Function.update_of_ne (fun e => ?_) _ _
  subst e
  exact (Finset.mem_sdiff.mp hb).2 (by simp [refs3])

/-! ## @main on the TensorCore -/

theorem phinj : Function.Injective (cellOf (nD := nD) (τ := τ) (Pipeline.pin (pcfgs (F := F)) adm)) := cellOf_inj

/-- The first call's ghost state on device `d`. -/
abbrev GH (d : Dev nD) : sProp 𝕄 :=
  iprop(Pipeline.cellsGhost (Pipeline.pin (pcfgs (F := F)) adm) EP 0 d ∗ Pipeline.toksInit (Pipeline.pin (pcfgs (F := F)) adm) EP 0 d)

/-- The first call's step. -/
theorem call_wp [∀ e, Nonempty (Elt F e)] (d : Dev nD) (V : Vals F) (Φ : PUnit → sProp 𝕄) :
    iprop((iprop(boundary (d.tc : Thread nD τ) ∗ StableHlo.held (d.tc : Thread nD τ) (Pipeline.ucRefs τ sig) (afterCall V d) ∗ debts d) -∗ Φ ⟨⟩)
        ∗ boundary (d.tc : Thread nD τ) ∗ (StableHlo.held (d.tc : Thread nD τ) (Pipeline.ucRefs τ sig) V ∗ debts d) ∗ levAts (K (F := F)).L (K (F := F)).lev
        ∗ GH d)
      ⊢ wp frame (wpE (D (F := F)) 𝒱₁ (d.tc : Thread nD τ) none) Set.univ (Prog.lift (.customCall (Pipeline.entry 0) ())) Φ := by
  refine BI.Entails.trans ?_ (Pipeline.RegionSeg.wp (pcfgs (F := F)) adm (dats V) none phinj EP (defs₀ (F := F)) 𝒱₀ (K (F := F)).L (K (F := F)).lev
    (callSeg V) d none (fun _ h => nomatch h) _ Φ)
  show _ ⊢ (iprop((iprop(boundary (d.tc : Thread nD τ) ∗ StableHlo.held (d.tc : Thread nD τ) (Pipeline.ucRefs τ sig) (afterCall V d) ∗ debts d)
        -∗ |={Set.univ}=> Φ ⟨⟩)
      ∗ boundary (d.tc : Thread nD τ) ∗ (StableHlo.held (d.tc : Thread nD τ) (Pipeline.ucRefs τ sig) V ∗ debts d) ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
  iintro ⟨Hk, Hb, Hp, Hl, Hg, Ht⟩
  isplitl [Hk]
  · iintro H
    imodintro
    iapply Hk
    iexact H
  isplitl [Hb]; · iexact Hb
  isplitl [Hp]; · iexact Hp
  isplitl [Hl]; · iexact Hl
  isplitl [Hg]; · iexact Hg
  iexact Ht

abbrev FIN (d : Dev nD) : sProp 𝕄 := StableHlo.held (d.tc : Thread nD τ) (Pipeline.ucRefs τ sig) (V5 m d)

theorem mem_sub {l : List (HloOp τ sig (Elt F))} (h : l.Forall fun op => op.bufs ⊆ StableHlo.tcRefs τ sig) :
    ∀ op ∈ l, op.bufs ⊆ Pipeline.ucRefs τ sig := fun op ho => Pipeline.sub_ucRefs op (List.forall_iff_forall_mem.mp h op ho)

theorem mem_fresh {l : List (HloOp τ sig (Elt F))} (h : l.Forall fun op => op.fresh = ∅) : ∀ op ∈ l, op.fresh = ∅ :=
  List.forall_iff_forall_mem.mp h

/-- The rest of the TensorCore's state before the second call. -/
abbrev tcRestSt (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : ((K (F := F)).tcSt EH d 0 : sProp 𝕄) = iprop(debts d ∗ tcRestSt d) := rfl

/-- @main on device `d`'s TensorCore, from the launch to every buffer at its last contents. -/
theorem hmain [∀ e, Nonempty (Elt F e)] (κ : GSem nD τ sig → ℕ) (d : Dev nD) :
    iprop((K (F := F)).ctx EH (P (ops m)) κ ∗ (K (F := F)).tcSt EH d 0 ∗ (K (F := F)).tcRes m ρ d ∗ GH d)
      ⊢ wp frame (wpE ((K (F := F)).defs (D (F := F))) 𝒱₁ (SparseCore.T d) none) Set.univ (main d)
          fun _ => iprop((K (F := F)).tcSt EH d 1 ∗ FIN m d ∗ (K (F := F)).tcEnd d) := by
  rw [main_eq]
  rw [show (StableHlo.seq opsC : Prog (TpuEff nD τ sig (Elt F) _ .tc) PUnit) = (StableHlo.seq opsC >>= fun u => pure u) from (bind_pure _).symm]
  unfold SparseCore.Cfg.tcRes SparseCore.Cfg.tcEnd
  rw [show (unscopedBufs d (fun b => m ((SparseCore.T d).loc b)) : sProp 𝕄) = StableHlo.held (d.tc : Thread nD τ) (Pipeline.ucRefs τ sig) (V0 m d)
    from Pipeline.unscopedBufs_held d (V0 m d)]
  iintro ⟨#Hctx, Hst, ⟨Hb, Hv, Hts, -⟩, Hg⟩
  ihave Hlv := ((K (F := F)).ctx_levAts κ) $$ Hctx
  iapply (StableHlo.wp_seq 𝒱₁ none Set.univ d (Pipeline.ucRefs τ sig) _ opsA (mem_sub opsA_sub) (mem_fresh opsA_fresh) (V0 m d)) $$ [Hb Hv]
  · isplitl [Hb]; · iexact Hb
    iexact Hv
  iintro ⟨Hb, Hv⟩
  ihave Hst' := (Entails.of_eq (tcSt_eq (F := F) d)) $$ Hst
  icases Hst' with ⟨HO, Hrest⟩
  rw [wp_bind]
  iapply ((K (F := F)).wp_liftProg (D (F := F)) 𝒱₁ (SparseCore.T d) Set.univ none _ _)
  iapply (call_wp d (V1 m d) _)
  isplitr [Hb Hv HO Hg]
  swap
  · isplitl [Hb]; · iexact Hb
    isplitl [Hv HO]
    · isplitl [Hv]; · iexact Hv
      iexact HO
    isplitr; · iexact Hlv
    iexact Hg
  iintro ⟨Hb, Hv, HO⟩
  iapply (StableHlo.wp_seq 𝒱₁ none Set.univ d (Pipeline.ucRefs τ sig) _ opsB (mem_sub opsB_sub) (mem_fresh opsB_fresh) (V2 m d)) $$ [Hb Hv]
  · isplitl [Hb]; · iexact Hb
    iexact Hv
  iintro ⟨Hb, Hv⟩
  ihave Hv' := (show (StableHlo.held (d.tc : Thread nD τ) (Pipeline.ucRefs τ sig) (StableHlo.after opsB (V2 m d)) : sProp 𝕄) ⊢ _ from
    Entails.of_eq (held_V3 m d)) $$ Hv
  icases Hv' with ⟨H3, Hv⟩
  rw [wp_bind]
  iapply ((K (F := F)).wp_run (D (F := F)) 𝒱₁ (EH := EH) (P := P (ops m)) κ d 0) $$ [HO Hrest H3 Hb Hv Hts]
  isplitr; · iexact Hctx
  isplitl [HO Hrest]
  · iapply (Entails.of_eq (tcSt_eq (F := F) d).symm)
    isplitl [HO]; · iexact HO
    iexact Hrest
  isplitl [H3]
  · rw [st_eq]; iexact H3
  iintro ⟨Hst, H3⟩
  ihave H3 := (Entails.of_eq (dn_eq (ops m) d)) $$ H3
  ihave Hv := (Entails.of_eq (held_V4 m d).symm) $$ [H3 Hv]
  · isplitl [H3]; · iexact H3
    iexact Hv
  iapply (StableHlo.wp_seq 𝒱₁ none Set.univ d (Pipeline.ucRefs τ sig) _ opsC (mem_sub opsC_sub) (mem_fresh opsC_fresh) (V4 m d)) $$ [Hb Hv]
  · isplitl [Hb]; · iexact Hb
    iexact Hv
  iintro ⟨Hb, Hv⟩
  iapply (Entails.of_eq (wp_pure _ _ _ _ _).symm)
  imodintro
  isplitl [Hst]; · iexact Hst
  isplitl [Hv]; · iexact Hv
  isplitl [Hb]; · iexact Hb
  iexact Hts

/-! ## The launch element of the ghost state -/

def u₀ : UU :=
  (initOf (K (F := F)).hsCells (K (F := F)).hsToks,
    initOf (Pipeline.cells (Pipeline.pin (pcfgs (F := F)) adm) phinj) (Pipeline.launchToks (Pipeline.pin (pcfgs (F := F)) adm) phinj), 1)

theorem bigSep_emp' {I : Type} (s : Finset I) : (bigSep s fun _ => iprop(BI.emp)) = (iprop(BI.emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GH d)
        ∗ bigSep Finset.univ fun thr : Thread nD τ => bigSep Finset.univ fun q : Fin 1 => (P B).x q thr) := by
  unfold u₀
  iintro Hu
  ihave H := (ownU_pair (initOf (K (F := F)).hsCells (K (F := F)).hsToks) (_, (1 : Counters))) $$ Hu
  icases H with ⟨HH, HR⟩
  ihave H := (own_pair_emb (ER (F := F)) _ (1 : Counters)) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · rw [bigSep_sep']
    isplitl [Hg]
    · iapply (show (bigSep Finset.univ fun c : Dev nD => bigSep Finset.univ fun p => Pipeline.cellsGhost (Pipeline.pin (pcfgs (F := F)) adm) EP p c : sProp 𝕄)
        ⊢ bigSep Finset.univ fun c : Dev nD => Pipeline.cellsGhost (Pipeline.pin (pcfgs (F := F)) adm) EP 0 c from
        bigSep_mono fun c _ => BI.bigSep_elim (Finset.mem_univ 0))
      iexact Hg
    · iapply (show (bigSep Finset.univ fun c : Dev nD => bigSep Finset.univ fun p => Pipeline.toksInit (Pipeline.pin (pcfgs (F := F)) adm) EP p c : sProp 𝕄)
        ⊢ bigSep Finset.univ fun c : Dev nD => Pipeline.toksInit (Pipeline.pin (pcfgs (F := F)) adm) EP 0 c from
        bigSep_mono fun c _ => BI.bigSep_elim (Finset.mem_univ 0))
      iexact Ht
  rw [show (bigSep Finset.univ fun thr : Thread nD τ => bigSep Finset.univ fun q : Fin 1 => (P B).x q thr) = bigSep Finset.univ fun _ => iprop(BI.emp) from
    bigSep_congr fun _ _ => bigSep_univ_of_subsingleton (0 : Fin 1), bigSep_emp']
  iempintro

/-! ## The program's run -/

/-- Device `d`'s buffers at the end. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  iintro ⟨Hv, HSI⟩
  ihave Hv := (show FIN m d ⊢ (bigSep (Pipeline.ucRefs τ sig) fun b => ((d, b) : Loc nD τ sig) ↦{fullShare} V5 m d b : sProp 𝕄) from .rfl) $$ Hv
  iapply (SI_pointsTo_bufs_agree (c := d) (qs := fun _ => fullShare) (F := V5 m d) (Pipeline.ucRefs τ sig))
  isplitl [HSI]; · iexact HSI
  iexact Hv

/-- Every device's buffers at their last contents, every semaphore at zero. -/
def QC : PUnit × MemSt nD τ sig (Elt F) → Prop := fun r => (∀ d : Dev nD, ∀ b ∈ Pipeline.ucRefs τ sig, r.2.mem (d, b) = V5 m d b) ∧ r.2.sem = fun _ => 0

/-- The program runs, if every row number the first call computes names a row of the table. -/
theorem run_main [∀ e, Nonempty (Elt F e)] (hB : (ops m).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱₁) (EH := EH) (P := P (ops m)) (A := ∅) scFacts v₀
    (fun q hq => match q with | 0 => nomatch hq)
    (fun q _ => match q with | 0 => tileObl (ops m) scFacts hB)
    (fun q _ => match q with | 0 => SparseCore.Cfg.VecSplit.of_plain (vecSplit (ops m)))
    m ρ main (fun d => GH d) (FIN m) (u₀ (F := F)) (sep_elim_left.trans (hu₀ (ops m))) (hmain m ρ) (fq m) (hfin m) (QC m) (fun _ h hz => ⟨h, hz⟩)

end Cert.Proof.KernelIdeal

end
-- ==== Proof.KernelIdeal.Results.lean ====
/- What every buffer holds after the whole program. -/
module

public import proofs.«01_k».proof.Proof.KernelIdeal.Main
public import Idealize.ShloMosaic.Lib.Pipeline.ValueKit
public import Idealize.ShloMosaic.Lib.Pipeline.RegionArraysS
public import Idealize.ShloMosaic.Lib.ValueIdxCore
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

variable (m : (ℓ : Loc nD τ sig) → Buf (Elt F) ℓ) (d : Dev nD) (V : Vals F)

/-! ## What the host operations leave -/

theorem A_arg0 : StableHlo.after opsA V (Proc.devRef .tc main_arg0) = V (Proc.devRef .tc main_arg0) := by
  after_results
theorem A_arg1 : StableHlo.after opsA V (Proc.devRef .tc main_arg1) = V (Proc.devRef .tc main_arg1) := by
  after_results

/-- The squared lengths of the rows, as a column; -/
def zsq (z : (⟨S16384x64, .f32⟩ : BufTy).Contents (Elt F)) : (⟨S16384x1, .f32⟩ : BufTy).Contents (Elt F) :=
  broadcastInDim S16384x1 ![0] bcast_S16384_S16384x1_0
    (Host.reduceAdd (mulf z z) (constant S_ .f32 0x00000000#32) reducesTo_S16384x64_S16384_d1 h_S_)
/-- of the code words, as a row; -/
def esq (e : (⟨S8192x64, .f32⟩ : BufTy).Contents (Elt F)) : (⟨S1x8192, .f32⟩ : BufTy).Contents (Elt F) :=
  shapeCast S1x8192 (Host.reduceAdd (mulf e e) (constant S_ .f32 0x00000000#32) reducesTo_S8192x64_S8192_d1 h_S_)
    shapeCasts_S8192_S1x8192
/-- the numbers of a half's columns; -/
def cols : (⟨S1x4096, .f32⟩ : BufTy).Contents (Elt F) :=
  shapeCast S1x4096 (sitofp .f32 (iotaInDim S4096 32 0)) shapeCasts_S4096_S1x4096
/-- the code words times minus two. -/
def neg2 (e : (⟨S8192x64, .f32⟩ : BufTy).Contents (Elt F)) : (⟨S8192x64, .f32⟩ : BufTy).Contents (Elt F) :=
  mulf (broadcastInDim S8192x64 ![] bcast_S_S8192x64 (constant S_ .f32 0xC0000000#32)) e

theorem A_v2 : StableHlo.after opsA V (Proc.devRef .tc main_v2) = zsq (F := F) (V (Proc.devRef .tc main_arg0)) := by
  after_results; rfl
theorem A_v5 : StableHlo.after opsA V (Proc.devRef .tc main_v5) = esq (F := F) (V (Proc.devRef .tc main_arg1)) := by
  after_results; rfl
theorem A_v7 : StableHlo.after opsA V (Proc.devRef .tc main_v7) = cols (F := F) := by
  after_results; rfl
theorem A_v9 : StableHlo.after opsA V (Proc.devRef .tc main_v9) = neg2 (F := F) (V (Proc.devRef .tc main_arg1)) := by
  after_results; rfl

/-- The table: the code words, each followed by zeros. -/
def table (e : (⟨S8192x64, .f32⟩ : BufTy).Contents (Elt F)) : (⟨S8192x128, .f32⟩ : BufTy).Contents (Elt F) :=
  concatenate S8192x128 1 [⟨S8192x64, e⟩, ⟨S8192x64, broadcastInDim S8192x64 ![] bcast_S_S8192x64 (constant S_ .f32 0x00000000#32)⟩]
    concatenates_S8192x64_S8192x64_S8192x128_d1

theorem B_arg0 : StableHlo.after opsB V (Proc.devRef .tc main_arg0) = V (Proc.devRef .tc main_arg0) := by
  after_results
theorem B_arg1 : StableHlo.after opsB V (Proc.devRef .tc main_arg1) = V (Proc.devRef .tc main_arg1) := by
  after_results
theorem B_v10_0 : StableHlo.after opsB V (Proc.devRef .tc main_v10_0) = V (Proc.devRef .tc main_v10_0) := by
  after_results
theorem B_v11 : StableHlo.after opsB V (Proc.devRef .tc main_v11)
    = (shapeCast S_ (V (Proc.devRef .tc main_v10_1) : (⟨S1x1, .f32⟩ : BufTy).Contents (Elt F)) shapeCasts_S1x1_S_
        : (⟨S_, .f32⟩ : BufTy).Contents (Elt F)) := by
  after_results; rfl
theorem B_v13 : StableHlo.after opsB V (Proc.devRef .tc main_v13) = table (F := F) (V (Proc.devRef .tc main_arg1)) := by
  after_results; rfl

theorem C_arg0 : StableHlo.after opsC V (Proc.devRef .tc main_arg0) = V (Proc.devRef .tc main_arg0) := by
  after_results
theorem C_arg1 : StableHlo.after opsC V (Proc.devRef .tc main_arg1) = V (Proc.devRef .tc main_arg1) := by
  after_results
theorem C_v10_0 : StableHlo.after opsC V (Proc.devRef .tc main_v10_0) = V (Proc.devRef .tc main_v10_0) := by
  after_results
theorem C_v11 : StableHlo.after opsC V (Proc.devRef .tc main_v11) = V (Proc.devRef .tc main_v11) := by
  after_results
theorem C_v15 : StableHlo.after opsC V (Proc.devRef .tc main_v15)
    = (extractStridedSlice S16384x64 ![0, 0] (V (Proc.devRef .tc main_v14) : (⟨S16384x128, .f32⟩ : BufTy).Contents (Elt F)) slices_S16384x128_S16384x64_0_0
        : (⟨S16384x64, .f32⟩ : BufTy).Contents (Elt F)) := by
  after_results

/-! ## What the first call leaves -/

/-- A buffer that is neither of its outputs keeps what it held; -/
theorem call_keeps (r : Ref sig .tc) (h0 : r ≠ main_v10_0) (h1 : r ≠ main_v10_1) :
    afterCall V d (Proc.devRef .tc r) = V (Proc.devRef .tc r) :=
  Pipeline.afterRegion_keeps (dat V d) V winFacts0.arr_inj (A_eq V d) r fun w e => by
    subst e; revert h0 h1; revert w; decide

theorem N16 (t : Fin cfg0.N) : t.val < 16 := lt_of_lt_of_eq t.isLt (show cfg0.N = 16 from N_0)

/-- the grid point that handles a row; -/
def ptOf (n : Fin 16384) : Fin cfg0.N := ⟨n.val / 1024, lt_of_lt_of_eq (by omega : n.val / 1024 < 16) (show 16 = cfg0.N from N_0.symm)⟩
/-- the last one. -/
def ptLast : Fin cfg0.N := ⟨15, lt_of_lt_of_eq (by omega : 15 < 16) (show 16 = cfg0.N from N_0.symm)⟩

theorem index5 : ∀ t : Fin cfg0.N, ((cfg0.win 5).index t 0 : ℕ) = t.val := by decide +kernel
theorem index0 : ∀ t : Fin cfg0.N, ((cfg0.win 0).index t 0 : ℕ) = t.val ∧ ((cfg0.win 0).index t 1 : ℕ) = 0 := by decide +kernel
theorem index3 : ∀ t : Fin cfg0.N, ((cfg0.win 3).index t 0 : ℕ) = t.val ∧ ((cfg0.win 3).index t 1 : ℕ) = 0 := by decide +kernel
theorem index1 : ∀ t : Fin cfg0.N, ((cfg0.win 1).index t 0 : ℕ) = 0 ∧ ((cfg0.win 1).index t 1 : ℕ) = 0 := by decide +kernel
theorem index2 : ∀ t : Fin cfg0.N, ((cfg0.win 2).index t 0 : ℕ) = 0 ∧ ((cfg0.win 2).index t 1 : ℕ) = 0 := by decide +kernel
theorem index4 : ∀ t : Fin cfg0.N, ((cfg0.win 4).index t 0 : ℕ) = 0 ∧ ((cfg0.win 4).index t 1 : ℕ) = 0 := by decide +kernel

theorem idxAt_congr {t t' : Fin cfg0.N} {y y' : S1024.Idx} (h : t = t') (h' : y = y') :
    idxAt V t y = idxAt V t' y' := by subst h; subst h'; rfl

/-- the positions: each row's from its point; -/
theorem call_idx : afterCall V d (Proc.devRef .tc main_v10_0)
    = (fun i : S16384.Idx => idxAt V (ptOf (i 0)) (ValueIdx.ix1 ⟨(i 0).val % 1024, Nat.mod_lt _ (by omega)⟩)) := by
  refine (Pipeline.afterRegion_arr (dat V d) V winFacts0.arr_inj 5).trans ?_
  refine (dat V d).arrAt_eq_of_covers 5 _ (by decide +kernel) fun t hf y => ?_
  blk_simp
  rw [after_5]
  have ht := N16 t
  have hy : (y 0).val < 1024 := (y 0).isLt
  have h5 := index5 t
  have e0 : ((win0_5.blk t).view.emb y 0 : ℕ) = t.val * 1024 + (y 0).val := by
    blk_simp
    exact congrArg (· * 1024 + (y 0).val) h5
  refine idxAt_congr V (Fin.ext ?_) (funext fun a => Fin.ext ?_)
  · show t.val = ((win0_5.blk t).view.emb y 0 : ℕ) / 1024
    rw [e0]; omega
  · obtain rfl : a = (0 : Fin 1) := Subsingleton.elim (α := Fin 1) _ _
    show (y 0).val = (win0_5.index t 0 * 1024 + (y 0).val) % 1024
    have h5' : win0_5.index t 0 = t.val := h5
    rw [h5']; omega

/-- the word: the last point's. -/
theorem call_word : afterCall V d (Proc.devRef .tc main_v10_1)
    = (fun j : S1x1.Idx => wordAt V ptLast.val ptLast.isLt j) := by
  refine (Pipeline.afterRegion_arr (dat V d) V winFacts0.arr_inj 6).trans ?_
  refine (dat V d).arrAt_eq_of_after_last 6 ptLast (by decide +kernel) _ fun j => ?_
  blk_simp
  rw [after_6]

/-! ## The blocks the body reads -/

theorem blk0 (t : Fin cfg0.N) (y : S1024x1.Idx) :
    iblk V 0 t y = (V (Proc.devRef .tc main_v2) : (⟨S16384x1, .f32⟩ : BufTy).Contents (Elt F)) (ValueIdx.ix2 ⟨t.val * 1024 + (y 0).val, by have := N16 t; have := ValueIdx.idx2_lt0 y; omega⟩ (y 1)) := by
  have h := index0 t
  unfold iblk
  blk_simp
  refine congrArg (V (Proc.devRef .tc main_v2)) (funext fun a => Fin.ext ?_)
  match a with
  | ⟨0, _⟩ => (blk_simp; exact congrArg (· * 1024 + (y 0).val) h.1)
  | ⟨1, _⟩ => (blk_simp; exact h.2)

theorem blk3 (t : Fin cfg0.N) (y : S1024x64.Idx) :
    iblk V 3 t y = (V (Proc.devRef .tc main_arg0) : (⟨S16384x64, .f32⟩ : BufTy).Contents (Elt F)) (ValueIdx.ix2 ⟨t.val * 1024 + (y 0).val, by have := N16 t; have := ValueIdx.idx2_lt0 y; omega⟩ (y 1)) := by
  have h := index3 t
  unfold iblk
  blk_simp
  refine congrArg (V (Proc.devRef .tc main_arg0)) (funext fun a => Fin.ext ?_)
  match a with
  | ⟨0, _⟩ => (blk_simp; exact congrArg (· * 1024 + (y 0).val) h.1)
  | ⟨1, _⟩ => (blk_simp; exact (congrArg (· * 64 + (y 1).val) h.2).trans (by simp))

theorem blk1 (t : Fin cfg0.N) (y : S1x8192.Idx) :
    iblk V 1 t y = (V (Proc.devRef .tc main_v5) : (⟨S1x8192, .f32⟩ : BufTy).Contents (Elt F)) y := by
  have h := index1 t
  unfold iblk
  blk_simp
  refine congrArg (V (Proc.devRef .tc main_v5)) (funext fun a => Fin.ext ?_)
  match a with
  | ⟨0, _⟩ => (blk_simp; exact h.1)
  | ⟨1, _⟩ => (blk_simp; exact (congrArg (· * 8192 + (y 1).val) h.2).trans (by simp))

theorem blk2 (t : Fin cfg0.N) (y : S1x4096.Idx) :
    iblk V 2 t y = (V (Proc.devRef .tc main_v7) : (⟨S1x4096, .f32⟩ : BufTy).Contents (Elt F)) y := by
  have h := index2 t
  unfold iblk
  blk_simp
  refine congrArg (V (Proc.devRef .tc main_v7)) (funext fun a => Fin.ext ?_)
  match a with
  | ⟨0, _⟩ => (blk_simp; exact h.1)
  | ⟨1, _⟩ => (blk_simp; exact (congrArg (· * 4096 + (y 1).val) h.2).trans (by simp))

theorem blk4 (t : Fin cfg0.N) (y : S8192x64.Idx) :
    iblk V 4 t y = (V (Proc.devRef .tc main_v9) : (⟨S8192x64, .f32⟩ : BufTy).Contents (Elt F)) y := by
  have h := index4 t
  unfold iblk
  blk_simp
  refine congrArg (V (Proc.devRef .tc main_v9)) (funext fun a => Fin.ext ?_)
  match a with
  | ⟨0, _⟩ => (blk_simp; exact (congrArg (· * 8192 + (y 0).val) h.1).trans (by simp))
  | ⟨1, _⟩ => (blk_simp; exact (congrArg (· * 64 + (y 1).val) h.2).trans (by simp))

/-! ## The whole program -/

theorem V1_arg0 : V1 m d (Proc.devRef .tc main_arg0) = m (d, Proc.devRef .tc main_arg0) := A_arg0 _
theorem V1_arg1 : V1 m d (Proc.devRef .tc main_arg1) = m (d, Proc.devRef .tc main_arg1) := A_arg1 _
theorem V2_arg0 : V2 m d (Proc.devRef .tc main_arg0) = m (d, Proc.devRef .tc main_arg0) :=
  (call_keeps d _ _ (by decide) (by decide)).trans (V1_arg0 m d)
theorem V2_arg1 : V2 m d (Proc.devRef .tc main_arg1) = m (d, Proc.devRef .tc main_arg1) :=
  (call_keeps d _ _ (by decide) (by decide)).trans (V1_arg1 m d)
theorem V5_arg0 : V5 m d (Proc.devRef .tc main_arg0) = m (d, Proc.devRef .tc main_arg0) :=
  (C_arg0 _).trans ((V4_ne m d (by decide)).trans ((B_arg0 _).trans (V2_arg0 m d)))
theorem V5_arg1 : V5 m d (Proc.devRef .tc main_arg1) = m (d, Proc.devRef .tc main_arg1) :=
  (C_arg1 _).trans ((V4_ne m d (by decide)).trans ((B_arg1 _).trans (V2_arg1 m d)))

/-- The positions the first call writes. -/
def found : S16384.Idx → BitVec 32 :=
  fun i => idxAt (V1 m d) (ptOf (i 0)) (ValueIdx.ix1 ⟨(i 0).val % 1024, Nat.mod_lt _ (by omega)⟩)

theorem V3_v10_0 : V3 m d (Proc.devRef .tc main_v10_0) = found m d :=
  (B_v10_0 _).trans (call_idx d (V1 m d))
theorem V3_v13 : V3 m d (Proc.devRef .tc main_v13) = table (F := F) (m (d, Proc.devRef .tc main_arg1)) :=
  (B_v13 _).trans (congrArg _ (V2_arg1 m d))
theorem V5_v10_0 : V5 m d (Proc.devRef .tc main_v10_0) = found m d :=
  (C_v10_0 _).trans ((V4_ne m d (by decide)).trans (V3_v10_0 m d))
theorem V5_v11 (i : S_.Idx) : V5 m d (Proc.devRef .tc main_v11) i
    = wordAt (V1 m d) ptLast.val ptLast.isLt (ValueIdx.ix2 0 0) := by
  rw [show V5 m d (Proc.devRef .tc main_v11) = _ from
    (C_v11 _).trans ((V4_ne m d (by decide)).trans ((B_v11 _).trans
      (congrArg (fun x => shapeCast S_ (x : (⟨S1x1, .f32⟩ : BufTy).Contents (Elt F)) shapeCasts_S1x1_S_) (call_word d (V1 m d)))))]
  refine congrArg (wordAt (V1 m d) ptLast.val ptLast.isLt) (funext fun a => ?_)
  match a with
  | ⟨0, _⟩ => exact Subsingleton.elim (α := Fin 1) _ _
  | ⟨1, _⟩ => exact Subsingleton.elim (α := Fin 1) _ _

theorem ops_I : (ops m).I d = found m d := V3_v10_0 m d
theorem ops_X : (ops m).X d = table (F := F) (m (d, Proc.devRef .tc main_arg1)) := V3_v13 m d

theorem V5_v15 : V5 m d (Proc.devRef .tc main_v15)
    = (extractStridedSlice S16384x64 ![0, 0] (gathered (F := F) (found m d) (table (m (d, Proc.devRef .tc main_arg1)))) slices_S16384x128_S16384x64_0_0
        : (⟨S16384x64, .f32⟩ : BufTy).Contents (Elt F)) := by
  refine (C_v15 _).trans ?_
  rw [V4_out]
  rw [← ops_I, ← ops_X]; rfl

end Cert.Proof.KernelIdeal

end
-- ==== Proof.First.lean ====
module

public import Idealize.ShloMosaic.PureOps.Ideal.Laws

/-!
# The first of the least entries of a row

What both programs look for, stated for a row of extended reals, and the ways they find it: a fold of the entries and
one of the column numbers, half by half; and a fold of pairs.
-/

@[expose] public section

namespace Cert.Proof

/-- Column `k` is the first of the least entries of a row. -/
def FirstMin {n : ℕ} (D : Fin n → EReal) (k : Fin n) : Prop :=
  (∀ j, D k ≤ D j) ∧ ∀ j, j < k → D k < D j

theorem FirstMin.unique {n : ℕ} {D : Fin n → EReal} {k k' : Fin n} (h : FirstMin D k) (h' : FirstMin D k') :
    k = k' := by
  rcases lt_trichotomy k k' with l | l | l
  · exact absurd (h'.2 k l) (not_lt.2 (h.1 k'))
  · exact l
  · exact absurd (h.2 k' l) (not_lt.2 (h'.1 k))

/-- A row that is not empty has one. -/
theorem FirstMin.exists {n : ℕ} [NeZero n] (D : Fin n → EReal) : ∃ k, FirstMin D k := by
  obtain ⟨j, -, hj⟩ := Finset.exists_min_image Finset.univ D ⟨0, Finset.mem_univ _⟩
  have hne : (Finset.univ.filter fun k => D k = D j).Nonempty := ⟨j, by simp⟩
  refine ⟨(Finset.univ.filter fun k => D k = D j).min' hne, ?_⟩
  have hm : D ((Finset.univ.filter fun k => D k = D j).min' hne) = D j :=
    (Finset.mem_filter.1 (Finset.min'_mem _ hne)).2
  refine ⟨fun i => hm.le.trans (hj i (Finset.mem_univ _)), fun i hi => ?_⟩
  rw [hm]
  refine lt_of_le_of_ne (hj i (Finset.mem_univ _)) fun e => ?_
  exact absurd (Finset.min'_le _ i (by simp [e])) (not_le.2 hi)

/-- The least entry, as a fold from plus infinity, is the entry there. -/
theorem FirstMin.fold {n : ℕ} {D : Fin n → EReal} {k : Fin n} (h : FirstMin D k) :
    Finset.univ.fold min (⊤ : EReal) D = D k := by
  refine le_antisymm ?_ ?_
  · rw [Finset.fold_min_le]; exact Or.inr ⟨k, Finset.mem_univ _, le_rfl⟩
  · rw [Finset.le_fold_min]; exact ⟨le_top, fun j _ => h.1 j⟩

/-- The least column number among the columns that hold the least entry (`c j` the number of column `j`, a number
`big` above all of them elsewhere) is the number of that column. -/
theorem FirstMin.fold_col {n : ℕ} {D : Fin n → EReal} {k : Fin n} (h : FirstMin D k) (c : Fin n → EReal) (big : EReal)
    (hc : ∀ i j, i ≤ j → c i ≤ c j) (hb : ∀ i, c i ≤ big) :
    Finset.univ.fold min (⊤ : EReal) (fun j => if D j = D k then c j else big) = c k := by
  refine le_antisymm ?_ ?_
  · rw [Finset.fold_min_le]; exact Or.inr ⟨k, Finset.mem_univ _, by simp⟩
  · rw [Finset.le_fold_min]
    refine ⟨le_top, fun j _ => ?_⟩
    split
    · rename_i e
      exact hc _ _ (not_lt.1 fun l => absurd (h.2 j l) (by rw [e]; exact lt_irrefl _))
    · exact hb k

/-- The first of the two halves of a row has it when its least entry is not above that of the second, the second half
otherwise. -/
theorem FirstMin.left {a b : ℕ} {D : Fin (a + b) → EReal} {k₀ : Fin a} {k₁ : Fin b}
    (h0 : FirstMin (fun j => D (Fin.castAdd b j)) k₀) (h1 : FirstMin (fun j => D (Fin.natAdd a j)) k₁)
    (h : ¬ D (Fin.natAdd a k₁) < D (Fin.castAdd b k₀)) : FirstMin D (Fin.castAdd b k₀) := by
  constructor
  · intro j
    induction j using Fin.addCases with
    | left i => exact h0.1 i
    | right i => exact (not_lt.1 h).trans (h1.1 i)
  · intro j hj
    induction j using Fin.addCases with
    | left i => exact h0.2 i (Fin.lt_def.2 (Fin.lt_def.1 hj))
    | right i => exfalso; have : a + i.val < k₀.val := hj; omega

theorem FirstMin.right {a b : ℕ} {D : Fin (a + b) → EReal} {k₀ : Fin a} {k₁ : Fin b}
    (h0 : FirstMin (fun j => D (Fin.castAdd b j)) k₀) (h1 : FirstMin (fun j => D (Fin.natAdd a j)) k₁)
    (h : D (Fin.natAdd a k₁) < D (Fin.castAdd b k₀)) : FirstMin D (Fin.natAdd a k₁) := by
  constructor
  · intro j
    induction j using Fin.addCases with
    | left i => exact h.le.trans (h0.1 i)
    | right i => exact h1.1 i
  · intro j hj
    induction j using Fin.addCases with
    | left i => exact h.trans_le (h0.1 i)
    | right i => exact h1.2 i (by simpa using hj)

/-! ## A search by pairs -/

/-- Of two pairs of an entry and its place the one with the lesser entry, of two with the same entry the one with the
lesser place. -/
def better (p q : EReal × ℕ) : Prop := p.1 < q.1 ∨ (p.1 = q.1 ∧ p.2 ≤ q.2)

theorem better_refl (p : EReal × ℕ) : better p p := Or.inr ⟨rfl, le_rfl⟩
theorem better_trans {p q r : EReal × ℕ} (h : better p q) (h' : better q r) : better p r := by
  rcases h with h | ⟨h, e⟩ <;> rcases h' with h' | ⟨h', e'⟩
  · exact Or.inl (h.trans h')
  · exact Or.inl (h' ▸ h)
  · exact Or.inl (h ▸ h')
  · exact Or.inr ⟨h.trans h', e.trans e'⟩

/-- A fold that keeps one of its two operands, one at least as good as both, ends in an operand at least as good as
all of them. -/
theorem foldl_better {α : Type} (v : α → EReal × ℕ) (P : α → Prop) (f : α → α → α)
    (hP : ∀ a b, P a → P b → P (f a b))
    (hf : ∀ a b, P a → P b → (f a b = a ∨ f a b = b) ∧ better (v (f a b)) (v a) ∧ better (v (f a b)) (v b)) :
    ∀ (l : List α) (a : α), P a → (∀ b ∈ l, P b) →
      (l.foldl f a = a ∨ l.foldl f a ∈ l) ∧ better (v (l.foldl f a)) (v a) ∧ ∀ b ∈ l, better (v (l.foldl f a)) (v b)
  | [], a, _, _ => ⟨Or.inl rfl, better_refl _, by simp⟩
  | b :: l, a, ha, hl => by
      have hb : P b := hl b (by simp)
      obtain ⟨h1, h2, h3⟩ := foldl_better v P f hP hf l (f a b) (hP a b ha hb) fun c hc => hl c (by simp [hc])
      obtain ⟨g1, g2, g3⟩ := hf a b ha hb
      rw [List.foldl_cons]
      refine ⟨?_, better_trans h2 g2, ?_⟩
      · rcases h1 with h1 | h1
        · rw [h1]; rcases g1 with g1 | g1
          · exact Or.inl g1
          · exact Or.inr (by simp [g1])
        · exact Or.inr (by simp [h1])
      · intro c hc
        rcases List.mem_cons.1 hc with rfl | hc
        · exact better_trans h2 g3
        · exact h3 c hc

end Cert.Proof
-- ==== Proof.KernelIdeal.Value.lean ====
/- What the first kernel's body computes, over the extended reals. -/
module

public import proofs.«01_k».proof.Proof.KernelIdeal.Results
public import proofs.«01_k».proof.Proof.First
public import Idealize.ShloMosaic.Lib.MatmulPlain
public import Idealize.ShloMosaic.Lib.IdealHost
public import Idealize.ShloMosaic.Lib.ValueIdx
public import Idealize.ShloMosaic.PureOps.Ideal.Laws

@[expose] public section

set_option maxRecDepth 16384

noncomputable section

namespace Cert.Proof.KernelIdeal

open Cert.Proof Cert.KernelIdeal Cert.KernelIdeal.Gen
open Idealize.ShloMosaic hiding ix1 ix2
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Idealize.ShloMosaic.Rounds
open Idealize.ShloMosaic.Pipeline (Dat Window BodyObligation cellOf)

/-! ## The body's operations, read at an index

`dist` is the entry of a row of distances: the row's squared length plus the product with the code words (times minus two)
plus the code word's squared length. -/

section

variable (x0 : Vec Ideal S1024x1 .f32) (x1 : Vec Ideal S1x8192 .f32) (x2 : Vec Ideal S1x4096 .f32) (x3 : Vec Ideal S1024x64 .f32) (x4 : Vec Ideal S8192x64 .f32)
variable (r : Fin 1024)

def dist (k : Fin 8192) : EReal :=
  x0 (ix2 r 0) + ∑ j : Fin 64, x3 (ix2 r j) * x4 (ix2 k j) + x1 (ix2 0 k)

theorem pay4_apply (k : Fin 8192) : k0_pay4 (F := Ideal) x3 x4 x0 x1 (ix2 r k) = dist x0 x1 x3 x4 r k := by
  have hm : matmul (F := Ideal) dot_S1024x64_S8192x64_S1024x8192_1_1_0_0_n_n none x3 x4 (constant S1024x8192 .f32 0x00000000#32) (ix2 r k)
      = ∑ j : Fin 64, x3 (ix2 r j) * x4 (ix2 k j) :=
    (Ideal.matmul_transposedRhs_apply (M := 1024) (K := 64) (N := 8192) none x3 x4 _ r k).trans
      (by rw [show (constant (F := Ideal) S1024x8192 .f32 0x00000000#32) (ix2 r k) = 0 from Ideal.ofBits_zero_f32, zero_add])
  have h0 : broadcastTo S1024x8192 x0 broadcasts_S1024x1_S1024x8192 (ix2 r k) = x0 (ix2 r 0) :=
    broadcastTo_apply _ _ _ _ fun a => by
      match a with
      | ⟨0, _⟩ => rfl
      | ⟨1, _⟩ => rfl
  have h1 : broadcastTo S1024x8192 x1 broadcasts_S1x8192_S1024x8192 (ix2 r k) = x1 (ix2 0 k) :=
    broadcastTo_apply _ _ _ _ fun a => by
      match a with
      | ⟨0, _⟩ => rfl
      | ⟨1, _⟩ => rfl
  unfold k0_pay4 dist
  simp only [shapeCast_self]
  show (broadcastTo S1024x8192 x0 broadcasts_S1024x1_S1024x8192 (ix2 r k) + matmul (F := Ideal) dot_S1024x64_S8192x64_S1024x8192_1_1_0_0_n_n none x3 x4 (constant S1024x8192 .f32 0x00000000#32) (ix2 r k))
    + broadcastTo S1024x8192 x1 broadcasts_S1x8192_S1024x8192 (ix2 r k) = _
  rw [hm, h0, h1]

/-- The columns of the first half, -/
abbrev lcol (k : Fin 4096) : Fin 8192 := Fin.castAdd 4096 k
/-- and of the second; -/
abbrev hcol (k : Fin 4096) : Fin 8192 := Fin.natAdd 4096 k
/-- the entries of the first half of the columns, -/
def lo : Fin 4096 → EReal := fun k => dist x0 x1 x3 x4 r (lcol k)
/-- and of the second. -/
def hi : Fin 4096 → EReal := fun k => dist x0 x1 x3 x4 r (hcol k)

theorem pay5_apply (k : Fin 4096) : k0_pay5 (F := Ideal) x3 x4 x0 x1 (ix2 r k) = lo x0 x1 x3 x4 r k := by
  unfold k0_pay5
  exact (extractStridedSlice_apply _ _ _ _ (ix2 r (lcol k)) fun a => by
      match a with
      | ⟨0, _⟩ => exact (Nat.zero_add _).symm
      | ⟨1, _⟩ => exact (Nat.zero_add _).symm).trans (pay4_apply x0 x1 x3 x4 r _)
theorem pay6_apply (k : Fin 4096) : k0_pay6 (F := Ideal) x3 x4 x0 x1 (ix2 r k) = hi x0 x1 x3 x4 r k := by
  unfold k0_pay6
  exact (extractStridedSlice_apply _ _ _ _ (ix2 r (hcol k)) fun a => by
      match a with
      | ⟨0, _⟩ => exact (Nat.zero_add _).symm
      | ⟨1, _⟩ => rfl).trans (pay4_apply x0 x1 x3 x4 r _)

/-- A minimum over the columns is the fold of `min` from plus infinity. -/
theorem min_apply (src : FVec Ideal S1024x4096 .f32) :
    multiReduction .minimumf [1] S1024 src 0x7F800000#32 reduces_S1024x4096_S1024 (.inl rfl) rfl (ix1 r)
      = Finset.univ.fold min (⊤ : EReal) fun k : Fin 4096 => src (ix2 r k) := by
  have e : (FloatOps.ofBits (F := Ideal) .f32 0x7F800000#32) = (⊤ : EReal) := by simp [FloatOps.ofBits, Ideal.ofBits, Ideal.ieee]
  refine (multiReduction_minimumf_eq_fold src _ reduces_S1024x4096_S1024 _ _ _).trans ?_
  refine (reduces_S1024x4096_S1024.fold_filter_drop_single _ _ src (ix1 r)).trans ?_
  rw [e]
  refine congrArg (Finset.fold min (⊤ : EReal) · Finset.univ) (funext fun k => congrArg src (funext fun a => Fin.ext ?_))
  match a with
  | ⟨0, _⟩ => rfl
  | ⟨1, _⟩ => rfl

theorem col_apply (v : FVec Ideal S1024 .f32) :
    shapeCast S1024x1 v shapeCasts_S1024_S1024x1 (ix2 r 0) = v (ix1 r) :=
  shapeCast_apply _ _ _ _ (by rw [Shape.rowMajor_val_one, Shape.rowMajor_val_two]; show r.val = r.val * 1 + 0; omega)
theorem flat_apply (v : FVec Ideal S1024x1 .f32) :
    shapeCast S1024 v shapeCasts_S1024x1_S1024 (ix1 r) = v (ix2 r 0) :=
  shapeCast_apply _ _ _ _ (by rw [Shape.rowMajor_val_one, Shape.rowMajor_val_two]; show r.val * 1 + 0 = r.val; omega)

theorem pay8_apply {k₀ : Fin 4096} (h : FirstMin (lo x0 x1 x3 x4 r) k₀) :
    k0_pay8 (F := Ideal) x3 x4 x0 x1 (ix2 r 0) = lo x0 x1 x3 x4 r k₀ := by
  unfold k0_pay8
  refine (col_apply r _).trans ((min_apply r _).trans (Eq.trans ?_ h.fold))
  exact congrArg (Finset.fold min (⊤ : EReal) · Finset.univ) (funext fun k => pay5_apply x0 x1 x3 x4 r k)
theorem pay10_apply {k₁ : Fin 4096} (h : FirstMin (hi x0 x1 x3 x4 r) k₁) :
    k0_pay10 (F := Ideal) x3 x4 x0 x1 (ix2 r 0) = hi x0 x1 x3 x4 r k₁ := by
  unfold k0_pay10
  refine (col_apply r _).trans ((min_apply r _).trans (Eq.trans ?_ h.fold))
  exact congrArg (Finset.fold min (⊤ : EReal) · Finset.univ) (funext fun k => pay6_apply x0 x1 x3 x4 r k)

theorem spread_apply (v : FVec Ideal S1024x1 .f32) (k : Fin 4096) :
    broadcastTo S1024x4096 v broadcasts_S1024x1_S1024x4096 (ix2 r k) = v (ix2 r 0) :=
  broadcastTo_apply _ _ _ _ fun a => by
    match a with
    | ⟨0, _⟩ => rfl
    | ⟨1, _⟩ => rfl
theorem cols_apply (v : FVec Ideal S1x4096 .f32) (k : Fin 4096) :
    broadcastTo S1024x4096 v broadcasts_S1x4096_S1024x4096 (ix2 r k) = v (ix2 0 k) :=
  broadcastTo_apply _ _ _ _ fun a => by
    match a with
    | ⟨0, _⟩ => rfl
    | ⟨1, _⟩ => rfl

/-! The remaining operations at an index. -/

theorem pick_at (a b x y : FVec Ideal S1024x4096 .f32) (i : S1024x4096.Idx) :
    select (cmpf .oeq a b) x y i = if a i = b i then x i else y i := by
  show Scalar.select (BitVec.ofBool (decide (a i = b i))) (x i) (y i) = _
  by_cases h : a i = b i <;> simp [h, Scalar.select]
theorem add_at (v w : FVec Ideal S1024 .f32) (i : S1024.Idx) : addf v w i = (v i + w i : EReal) := rfl
theorem less_at (v w : FVec Ideal S1024 .f32) (i : S1024.Idx) :
    cmpf .olt v (extf .f32 (truncf .bf16 w bitsLt_bf16_f32) bitsLt_bf16_f32) i = BitVec.ofBool (decide ((v i : EReal) < w i)) := rfl
theorem pay1_at (v w : FVec Ideal S1024 .f32) (c : IVec S1024 1) (i : S1024.Idx) :
    k0_pay1 (F := Ideal) v w c i = Ideal.fptosi 32 (Scalar.select (c i) (w i) (v i)) := rfl
theorem sel_at (v w : FVec Ideal S1024 .f32) (c : IVec S1024 1) (i : S1024.Idx) :
    select c v w i = Scalar.select (c i) (v i) (w i) := rfl
theorem full_at (a : Ideal .f32) (i : S1024x4096.Idx) : broadcast S1024x4096 a i = a := rfl
theorem full_at' (a : Ideal .f32) (i : S1024.Idx) : broadcast S1024 a i = a := rfl

theorem c8192 : (Scalar.ofBits (F := Ideal) .f32 0x46000000#32) = ((8192 : ℝ) : EReal) := by
  simp only [Scalar.ofBits, FloatOps.ofBits, Ideal.ofBits, Ideal.ieee]; simp; rw [← EReal.coe_mul]; exact congrArg Real.toEReal (by norm_num)
theorem c4096 : (Scalar.ofBits (F := Ideal) .f32 0x45800000#32) = ((4096 : ℝ) : EReal) := by
  simp only [Scalar.ofBits, FloatOps.ofBits, Ideal.ofBits, Ideal.ieee]; simp; rw [← EReal.coe_mul]; exact congrArg Real.toEReal (by norm_num)

variable (hx2 : ∀ k : Fin 4096, x2 (ix2 0 k) = ((k.val : ℝ) : EReal))

theorem fold_num {D : Fin 4096 → EReal} {k : Fin 4096} (h : FirstMin D k) :
    Finset.univ.fold min (⊤ : EReal) (fun j => if D j = D k then ((j.val : ℝ) : EReal) else ((8192 : ℝ) : EReal)) = ((k.val : ℝ) : EReal) :=
  h.fold_col (fun j => ((j.val : ℝ) : EReal)) _ (fun i j l => EReal.coe_le_coe_iff.2 (Nat.cast_le.2 l))
    (fun i => EReal.coe_le_coe_iff.2 (by have : (i.val : ℝ) < 4096 := by exact_mod_cast i.isLt
                                         linarith))

include hx2 in
theorem pay9_apply {k₀ : Fin 4096} (h : FirstMin (lo x0 x1 x3 x4 r) k₀) :
    k0_pay9 (F := Ideal) x3 x4 x0 x1 x2 (ix1 r) = (((k₀.val : ℝ) : EReal)) := by
  unfold k0_pay9
  refine (min_apply r _).trans (Eq.trans ?_ (fold_num h))
  refine congrArg (Finset.fold min (⊤ : EReal) · Finset.univ) (funext fun k => ?_)
  refine (pick_at _ _ _ _ _).trans ?_
  rw [pay5_apply, spread_apply, pay8_apply x0 x1 x3 x4 r h, cols_apply, full_at, c8192]
  unfold k0_pay7
  rw [shapeCast_self, shapeCast_self, hx2]

include hx2 in
theorem pay11_apply {k₁ : Fin 4096} (h : FirstMin (hi x0 x1 x3 x4 r) k₁) :
    k0_pay11 (F := Ideal) x3 x4 x0 x1 x2 (ix1 r) = (((k₁.val : ℝ) : EReal) + ((4096 : ℝ) : EReal)) := by
  unfold k0_pay11
  refine (add_at _ _ _).trans ?_
  rw [full_at', c4096]
  refine congrArg (fun a : EReal => a + ((4096 : ℝ) : EReal)) ?_
  refine (min_apply r _).trans (Eq.trans ?_ (fold_num h))
  refine congrArg (Finset.fold min (⊤ : EReal) · Finset.univ) (funext fun k => ?_)
  refine (pick_at _ _ _ _ _).trans ?_
  rw [pay6_apply, spread_apply, pay10_apply x0 x1 x3 x4 r h, cols_apply, full_at, c8192]
  unfold k0_pay7
  rw [shapeCast_self, shapeCast_self, hx2]

theorem pay12_apply {k₀ k₁ : Fin 4096} (h : FirstMin (lo x0 x1 x3 x4 r) k₀) (h' : FirstMin (hi x0 x1 x3 x4 r) k₁) :
    k0_pay12 (F := Ideal) x3 x4 x0 x1 (ix1 r) = BitVec.ofBool (decide (hi x0 x1 x3 x4 r k₁ < lo x0 x1 x3 x4 r k₀)) := by
  unfold k0_pay12
  refine (less_at _ _ _).trans ?_
  rw [flat_apply, flat_apply, pay10_apply x0 x1 x3 x4 r h', pay8_apply x0 x1 x3 x4 r h]

/-- The least distance of each row, as the body puts it together from the two halves'. -/
def leastOf : FVec Ideal S1024 .f32 :=
  select (k0_pay12 (F := Ideal) x3 x4 x0 x1) (shapeCast S1024 (k0_pay10 (F := Ideal) x3 x4 x0 x1) shapeCasts_S1024x1_S1024)
    (shapeCast S1024 (k0_pay8 (F := Ideal) x3 x4 x0 x1) shapeCasts_S1024x1_S1024)

/-- The word a whole number converts to. -/
theorem word_num (k : ℕ) (h : k < 8192) : Ideal.fptosi 32 ((k : ℝ) : EReal) = BitVec.ofNat 32 k := by
  have e : Ideal.fptosi 32 ((k : ℝ) : EReal) = BitVec.ofInt 32 (k : ℤ) := by
    unfold Ideal.fptosi
    rw [Ideal.toIntClamped_coe, if_pos (Nat.cast_nonneg k), Int.floor_natCast]
    refine congrArg (BitVec.ofInt 32) ?_
    norm_num
    omega
  rw [e]; simp

include hx2 in
/-- A row's position is that of the first of its least entries, and its least distance is that entry. -/
theorem row_first : ∃ K : Fin 8192, FirstMin (dist x0 x1 x3 x4 r) K
    ∧ idxOf (F := Ideal) x0 x1 x2 x3 x4 (ix1 r) = BitVec.ofNat 32 K.val
    ∧ leastOf x0 x1 x3 x4 (ix1 r) = dist x0 x1 x3 x4 r K := by
  obtain ⟨k₀, h0⟩ := FirstMin.exists (lo x0 x1 x3 x4 r)
  obtain ⟨k₁, h1⟩ := FirstMin.exists (hi x0 x1 x3 x4 r)
  have e : idxOf (F := Ideal) x0 x1 x2 x3 x4 (ix1 r) = Ideal.fptosi 32 (Scalar.select (k0_pay12 (F := Ideal) x3 x4 x0 x1 (ix1 r))
      (k0_pay11 (F := Ideal) x3 x4 x0 x1 x2 (ix1 r)) (k0_pay9 (F := Ideal) x3 x4 x0 x1 x2 (ix1 r))) := by unfold idxOf; exact pay1_at _ _ _ _
  have e' : leastOf x0 x1 x3 x4 (ix1 r) = Scalar.select (k0_pay12 (F := Ideal) x3 x4 x0 x1 (ix1 r))
      (shapeCast S1024 (k0_pay10 (F := Ideal) x3 x4 x0 x1) shapeCasts_S1024x1_S1024 (ix1 r))
      (shapeCast S1024 (k0_pay8 (F := Ideal) x3 x4 x0 x1) shapeCasts_S1024x1_S1024 (ix1 r)) := by unfold leastOf; exact sel_at _ _ _ _
  rw [pay12_apply x0 x1 x3 x4 r h0 h1, pay11_apply x0 x1 x2 x3 x4 r hx2 h1, pay9_apply x0 x1 x2 x3 x4 r hx2 h0] at e
  rw [flat_apply, flat_apply, pay12_apply x0 x1 x3 x4 r h0 h1, pay10_apply x0 x1 x3 x4 r h1, pay8_apply x0 x1 x3 x4 r h0] at e'
  by_cases c : hi x0 x1 x3 x4 r k₁ < lo x0 x1 x3 x4 r k₀
  · refine ⟨hcol k₁, FirstMin.right (a := 4096) (b := 4096) (D := dist x0 x1 x3 x4 r) h0 h1 c, ?_, ?_⟩
    · rw [e, decide_eq_true c]
      refine Eq.trans ?_ (word_num (4096 + k₁.val) (by omega))
      refine congrArg (Ideal.fptosi 32) ?_
      show ((k₁.val : ℝ) : EReal) + ((4096 : ℝ) : EReal) = _
      rw [← EReal.coe_add]; push_cast; rw [add_comm]
    · rw [e', decide_eq_true c]; rfl
  · refine ⟨lcol k₀, FirstMin.left (a := 4096) (b := 4096) (D := dist x0 x1 x3 x4 r) h0 h1 c, ?_, ?_⟩
    · rw [e, decide_eq_false c]
      exact word_num k₀.val (by omega)
    · rw [e', decide_eq_false c]; rfl

theorem row_apply (v : FVec Ideal S1024 .f32) :
    shapeCast S1x1024 v shapeCasts_S1024_S1x1024 (ix2 0 r) = v (ix1 r) :=
  shapeCast_apply _ _ _ _ (by rw [Shape.rowMajor_val_one, Shape.rowMajor_val_two]; show r.val = 0 * 1024 + r.val; omega)
theorem sum_apply (src : FVec Ideal S1x1024 .f32) :
    multiReduction .add [1] S1 src 0x00000000#32 reduces_S1x1024_S1 (.inl rfl) rfl (ix1 0) = ∑ r : Fin 1024, src (ix2 0 r) := by
  refine (Ideal.multiReduction_add_single src _ reduces_S1x1024_S1 _ _ _).trans ?_
  refine Finset.sum_congr rfl fun k _ => congrArg src (funext fun a => Fin.ext ?_)
  match a with
  | ⟨0, _⟩ => rfl
  | ⟨1, _⟩ => rfl
theorem one_apply (v : FVec Ideal S1 .f32) : extractAt ![0, 0] (shapeCast S1x1 v shapeCasts_S1_S1x1) inpos_S1x1_p0_0 = v (ix1 0) := by
  unfold extractAt
  exact shapeCast_apply _ _ _ _ (by rw [Shape.rowMajor_val_one, Shape.rowMajor_val_two]; rfl)

/-- The running sum grows by the block's least distances. -/
theorem sumOf_eq (a : EReal) : sumOf (F := Ideal) x0 x1 x3 x4 a = a + ∑ r : Fin 1024, leastOf x0 x1 x3 x4 (ix1 r) := by
  unfold sumOf k0_pay2
  refine congrArg (fun b : EReal => a + b) ?_
  refine (one_apply _).trans ((sum_apply _).trans (Finset.sum_congr rfl fun r _ => ?_))
  exact row_apply r _

end

end Cert.Proof.KernelIdeal

end
-- ==== Proof.KernelIdeal.Outcome.lean ====
/- What the program computes over the extended reals, and that it runs. -/
module

public import proofs.«01_k».proof.Proof.KernelIdeal.Value
public import proofs.«01_k».proof.Proof.KernelIdeal.Results
public import proofs.«01_k».proof.Proof.First
public import Idealize.ShloMosaic.Lib.MatmulPlain
public import Idealize.ShloMosaic.Lib.IdealHost
public import Idealize.ShloMosaic.Lib.ValueIdx
public import Idealize.ShloMosaic.PureOps.Ideal.Laws

@[expose] public section

set_option maxRecDepth 16384

noncomputable section

namespace Cert.Proof.KernelIdeal

open Cert.Proof Cert.KernelIdeal Cert.KernelIdeal.Gen
open Idealize.ShloMosaic hiding ix1 ix2
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Idealize.ShloMosaic.Rounds
open Idealize.ShloMosaic.Pipeline (Dat Window BodyObligation cellOf)

/-! ## The distances, by row of the whole input -/

section

variable (z : (⟨S16384x64, .f32⟩ : BufTy).Contents (Elt Ideal)) (e : (⟨S8192x64, .f32⟩ : BufTy).Contents (Elt Ideal))

/-- The distance of row `n` to code word `k`, as the kernel computes it. -/
def kdist (n : Fin 16384) (k : Fin 8192) : EReal :=
  zsq (F := Ideal) z (ix2 n 0) + ∑ j : Fin 64, z (ix2 n j) * neg2 (F := Ideal) e (ix2 k j) + esq (F := Ideal) e (ix2 0 k)

end

variable (m : (ℓ : Loc nD τ sig) → Buf (Elt Ideal) ℓ) (d : Dev nD)

/-- The two arguments. -/
abbrev argZ : (⟨S16384x64, .f32⟩ : BufTy).Contents (Elt Ideal) := m (d, Proc.devRef .tc main_arg0)
abbrev argE : (⟨S8192x64, .f32⟩ : BufTy).Contents (Elt Ideal) := m (d, Proc.devRef .tc main_arg1)

/-- The row of the input that a row of a point's block is. -/
def rowAt (t : Fin cfg0.N) (r : Fin 1024) : Fin 16384 := ⟨t.val * 1024 + r.val, by have := N16 t; omega⟩

theorem blk_dist (t : Fin cfg0.N) (r : Fin 1024) (k : Fin 8192) :
    dist (iblk (V1 m d) 0 t) (iblk (V1 m d) 1 t) (iblk (V1 m d) 3 t) (iblk (V1 m d) 4 t) r k
      = kdist (argZ m d) (argE m d) (rowAt t r) k := by
  unfold dist kdist
  refine congrArg₂ (fun a b : EReal => a + b) (congrArg₂ (fun a b : EReal => a + b) ?_ (Finset.sum_congr rfl fun j _ => congrArg₂ (fun a b : EReal => a * b) ?_ ?_)) ?_
  · rw [blk0]; exact congrFun (A_v2 _) _
  · rw [blk3]; exact congrFun (A_arg0 _) _
  · rw [blk4]; exact congrFun (A_v9 _) _
  · rw [blk1]; exact congrFun (A_v5 _) _

/-- The numbers of the columns. -/
theorem cols_num (k : Fin 4096) : cols (F := Ideal) (ix2 0 k) = ((k.val : ℝ) : EReal) := by
  unfold cols
  refine (shapeCast_apply _ _ _ (ix1 k) (by rw [Shape.rowMajor_val_one, Shape.rowMajor_val_two]; show k.val = 0 * 4096 + k.val; omega)).trans ?_
  show (((BitVec.ofNat 32 k.val).toInt : ℝ) : EReal) = _
  have h : (BitVec.ofNat 32 k.val).toInt = (k.val : ℤ) := by
    rw [BitVec.toInt_eq_toNat_of_lt (by rw [BitVec.toNat_ofNat]; omega), BitVec.toNat_ofNat, Nat.mod_eq_of_lt (by omega)]
  rw [h]; rfl

theorem blk_cols (t : Fin cfg0.N) (k : Fin 4096) : iblk (V1 m d) 2 t (ix2 0 k) = ((k.val : ℝ) : EReal) := by
  rw [blk2]; exact (congrFun (A_v7 _) _).trans (cols_num k)

/-- The least distance of a row of a point's block. -/
def least (t : Fin cfg0.N) (r : Fin 1024) : EReal :=
  leastOf (iblk (V1 m d) 0 t) (iblk (V1 m d) 1 t) (iblk (V1 m d) 3 t) (iblk (V1 m d) 4 t) (ix1 r)

/-- Every row's position is that of the first of its least distances, and its least distance is that one. -/
theorem blk_first (t : Fin cfg0.N) (r : Fin 1024) : ∃ K : Fin 8192, FirstMin (kdist (argZ m d) (argE m d) (rowAt t r)) K
    ∧ idxAt (V1 m d) t (ix1 r) = BitVec.ofNat 32 K.val
    ∧ least m d t r = kdist (argZ m d) (argE m d) (rowAt t r) K := by
  obtain ⟨K, h1, h2, h3⟩ := row_first (iblk (V1 m d) 0 t) (iblk (V1 m d) 1 t) (iblk (V1 m d) 2 t) (iblk (V1 m d) 3 t) (iblk (V1 m d) 4 t) r (blk_cols m d t)
  rw [show dist (iblk (V1 m d) 0 t) (iblk (V1 m d) 1 t) (iblk (V1 m d) 3 t) (iblk (V1 m d) 4 t) r
    = kdist (argZ m d) (argE m d) (rowAt t r) from funext (blk_dist m d t r)] at h1
  rw [blk_dist] at h3
  exact ⟨K, h1, h2, h3⟩

theorem found_first (n : Fin 16384) : ∃ K : Fin 8192, FirstMin (kdist (argZ m d) (argE m d) n) K
    ∧ found m d (ix1 n) = BitVec.ofNat 32 K.val := by
  obtain ⟨K, h1, h2, -⟩ := blk_first m d (ptOf n) ⟨n.val % 1024, Nat.mod_lt _ (by omega)⟩
  rw [show rowAt (ptOf n) ⟨n.val % 1024, Nat.mod_lt _ (by omega)⟩ = n from Fin.ext (by show n.val / 1024 * 1024 + n.val % 1024 = n.val; omega)] at h1
  exact ⟨K, h1, h2⟩

/-- So every position names a row of the table. -/
theorem inRange : (ops m).InRange := by
  intro d j
  obtain ⟨K, -, h⟩ := found_first m d (j 0)
  have e : (ops m).I d j = BitVec.ofNat 32 K.val :=
    (congrFun (ops_I m d) j).trans ((congrArg (found m d) (ValueIdx.eq_ix1 j)).trans h)
  rw [e, BitVec.toNat_ofNat]
  omega

/-! ## The sum -/

/-- The sum of a point's least distances. -/
def psum (n : ℕ) : EReal := if h : n < cfg0.N then ∑ r : Fin 1024, least m d ⟨n, h⟩ r else 0

theorem psum_eq (n : ℕ) (h : n < cfg0.N) : psum m d n
    = ∑ r : Fin 1024, leastOf (iblk (V1 m d) 0 ⟨n, h⟩) (iblk (V1 m d) 1 ⟨n, h⟩) (iblk (V1 m d) 3 ⟨n, h⟩) (iblk (V1 m d) 4 ⟨n, h⟩) (ix1 r) := by
  unfold psum; rw [dif_pos h]; exact Finset.sum_congr rfl fun r _ => by unfold least; rfl

theorem wordAt_sum : ∀ (n : ℕ) (h : n < cfg0.N), n < 15 →
    ∀ j, wordAt (V1 m d) n h j = ∑ i ∈ Finset.range (n + 1), psum m d i
  | 0, h, _, j => by
    unfold wordAt word_A
    rw [sumOf_eq, Finset.sum_range_one, psum, dif_pos h]
    exact (congrArg (· + _) Ideal.ofBits_zero_f32).trans (zero_add _)
  | n + 1, h, hn, j => by
    unfold wordAt word_B
    rw [if_neg (by omega), sumOf_eq, Finset.sum_range_succ, psum, dif_pos h]
    exact congrArg (· + _) (wordAt_sum n _ (by omega) _)

theorem word_C_apply (x0 : Vec Ideal S1024x1 .f32) (x1 : Vec Ideal S1x8192 .f32) (x3 : Vec Ideal S1024x64 .f32) (x4 : Vec Ideal S8192x64 .f32)
    (a : Vec Ideal S1x1 .f32) (j : S1x1.Idx) : word_C (F := Ideal) x0 x1 x3 x4 a j
      = Ideal.div ((a o11 : EReal) + ∑ r : Fin 1024, leastOf x0 x1 x3 x4 (ix1 r)) (Scalar.ofBits (F := Ideal) .f32 0x49800000#32) := by
  unfold word_C k0_pay3
  exact congrArg (fun a : EReal => Ideal.div a (Scalar.ofBits (F := Ideal) .f32 0x49800000#32)) (sumOf_eq x0 x1 x3 x4 (a o11))

theorem word_last (j : S1x1.Idx) : wordAt (V1 m d) ptLast.val ptLast.isLt j
    = Ideal.div (∑ i ∈ Finset.range 16, psum m d i) (Scalar.ofBits (F := Ideal) .f32 0x49800000#32) := by
  have h : ∀ n (h : n < cfg0.N), n = 15 → wordAt (V1 m d) n h j = Ideal.div (∑ i ∈ Finset.range (n + 1), psum m d i) (Scalar.ofBits (F := Ideal) .f32 0x49800000#32) := by
    intro n h hn
    obtain ⟨k, rfl⟩ : ∃ k, n = k + 1 := ⟨n - 1, by omega⟩
    refine (congrFun (wordAt_C (V1 m d) ⟨k + 1, h⟩ hn) j).trans ((word_C_apply _ _ _ _ _ _).trans ?_)
    refine congrArg (fun a : EReal => Ideal.div a (Scalar.ofBits (F := Ideal) .f32 0x49800000#32)) ?_
    refine (congrArg₂ (fun a b : EReal => a + b) (wordAt_sum m d k _ (by omega) _) ?_).trans (Finset.sum_range_succ (psum m d) (k + 1)).symm
    exact (psum_eq m d (k + 1) h).symm
  exact h ptLast.val ptLast.isLt rfl

/-! ## The program runs -/

theorem runs (ρ : Dev nD → PrngReg) :
    θ_run (Cert.KernelIdeal.defs (F := Ideal)) (Cert.KernelIdeal.threads (F := Ideal)) ⟨m, fun _ => 0, ρ⟩ (QC m) :=
  run_main m ρ (inRange m)

/-- A run that ends with every buffer at its value ends so at each of its main memory's buffers, and with its semaphores at zero. -/
theorem ends {r : PUnit × MemSt nD τ sig (Elt Ideal)} (h : QC m r) (b : Ref sig .tc) (hb : Proc.devRef .tc b ∈ Pipeline.ucRefs τ sig) :
    r.2.mem ((d.tc : Thread nD τ).loc b) = V5 m d (Proc.devRef .tc b) := h.1 d _ hb

/-- The program ends with its arguments unchanged and every semaphore at zero. -/
theorem quiescent (ρ : Dev nD → PrngReg) :
    θ_run (Cert.KernelIdeal.defs (F := Ideal)) (Cert.KernelIdeal.threads (F := Ideal)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (runs m ρ) fun r h => ⟨fun c =>
    ⟨(ends m c h main_arg0 (Pipeline.devRef_mem_ucRefs rfl)).trans (V5_arg0 m c), (ends m c h main_arg1 (Pipeline.devRef_mem_ucRefs rfl)).trans (V5_arg1 m c)⟩, h.2⟩

end Cert.Proof.KernelIdeal

end
-- ==== Proof.ReferenceIdeal.Run.lean ====
/- The reference: its operations as lists, and its run. -/
module

public import proofs.«01_k».proof.Proof.Gen.ReferenceIdeal
public import Idealize.ShloMosaic.Lib.StableHlo.RunHlo
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Cert.ReferenceIdeal.Gen (facts₀ facts)

namespace Cert.Proof.ReferenceIdeal

open Cert.ReferenceIdeal Cert.ReferenceIdeal.Facts₀
open Idealize.ShloMosaic Idealize.ShloMosaic.TcCoe
open Idealize.SL.Sem

variable {F : FTy → Type} [FloatOps F]

/-- The distances of every row to every code word. -/
def opsD : List (HloOp τ sig (Elt F)) := [
  StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
  StableHlo.nullary main_cst (constant S_ .f32 0x00000000#32),
  StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
  StableHlo.unary main_v1 main_v2 (broadcastInDim S16384x1 ![0] bcast_S16384_S16384x1_0 : (⟨S16384, .f32⟩ : BufTy).Contents (Elt F) → (⟨S16384x1, .f32⟩ : BufTy).Contents (Elt F)),
  StableHlo.unary main_arg1 main_v3 ((transpose S64x8192 [1, 0] · transposes_S8192x64_S64x8192_1_0) : (⟨S8192x64, .f32⟩ : BufTy).Contents (Elt F) → (⟨S64x8192, .f32⟩ : BufTy).Contents (Elt F)),
  StableHlo.binary main_arg0 main_v3 main_v4 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
  StableHlo.nullary main_cst_0 (constant S_ .f32 0x40000000#32),
  StableHlo.unary main_cst_0 main_v5 (broadcastInDim S16384x8192 ![] bcast_S_S16384x8192 : (⟨S_, .f32⟩ : BufTy).Contents (Elt F) → (⟨S16384x8192, .f32⟩ : BufTy).Contents (Elt F)),
  StableHlo.binary main_v5 main_v4 main_v6 (mulf : (⟨S16384x8192, .f32⟩ : BufTy).Contents (Elt F) → (⟨S16384x8192, .f32⟩ : BufTy).Contents (Elt F) → (⟨S16384x8192, .f32⟩ : BufTy).Contents (Elt F)),
  StableHlo.unary main_v2 main_v7 (broadcastInDim S16384x8192 ![0, 1] bcast_S16384x1_S16384x8192_0_1 : (⟨S16384x1, .f32⟩ : BufTy).Contents (Elt F) → (⟨S16384x8192, .f32⟩ : BufTy).Contents (Elt F)),
  StableHlo.binary main_v7 main_v6 main_v8 (subf : (⟨S16384x8192, .f32⟩ : BufTy).Contents (Elt F) → (⟨S16384x8192, .f32⟩ : BufTy).Contents (Elt F) → (⟨S16384x8192, .f32⟩ : BufTy).Contents (Elt F)),
  StableHlo.binary main_arg1 main_arg1 main_v9 (mulf : (⟨S8192x64, .f32⟩ : BufTy).Contents (Elt F) → (⟨S8192x64, .f32⟩ : BufTy).Contents (Elt F) → (⟨S8192x64, .f32⟩ : BufTy).Contents (Elt F)),
  StableHlo.nullary main_cst_1 (constant S_ .f32 0x00000000#32),
  StableHlo.binary main_v9 main_cst_1 main_v10 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
  StableHlo.unary main_v10 main_v11 (broadcastInDim S1x8192 ![1] bcast_S8192_S1x8192_1 : (⟨S8192, .f32⟩ : BufTy).Contents (Elt F) → (⟨S1x8192, .f32⟩ : BufTy).Contents (Elt F)),
  StableHlo.unary main_v11 main_v12 (broadcastInDim S16384x8192 ![0, 1] bcast_S1x8192_S16384x8192_0_1 : (⟨S1x8192, .f32⟩ : BufTy).Contents (Elt F) → (⟨S16384x8192, .f32⟩ : BufTy).Contents (Elt F)),
  StableHlo.binary main_v8 main_v12 main_v13 (addf : (⟨S16384x8192, .f32⟩ : BufTy).Contents (Elt F) → (⟨S16384x8192, .f32⟩ : BufTy).Contents (Elt F) → (⟨S16384x8192, .f32⟩ : BufTy).Contents (Elt F))]

/-- The position of the first smallest distance of each row. -/
def opsM : List (HloOp τ sig (Elt F)) := [
  StableHlo.nullary main_call0_v0 ((iotaInDim S16384x8192 32 1) : (⟨S16384x8192, .i32⟩ : BufTy).Contents (Elt F)),
  StableHlo.nullary main_call0_cst ((constant S_ .f32 0x7F800000#32) : (⟨S_, .f32⟩ : BufTy).Contents (Elt F)),
  StableHlo.nullary main_call0_c ((constantI S_ 32 0#32) : (⟨S_, .i32⟩ : BufTy).Contents (Elt F)),
  StableHlo.quaternary main_v13 main_call0_v0 main_call0_cst main_call0_c main_call0_v1_0 ((fun x y u v j => (Host.argReduce reducer_argmin_f32_i32 x y u v reducesTo_S16384x8192_S16384_d1 h_S_ j).1) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F)),
  StableHlo.quaternary main_v13 main_call0_v0 main_call0_cst main_call0_c main_v14 ((fun x y u v j => (Host.argReduce reducer_argmin_f32_i32 x y u v reducesTo_S16384x8192_S16384_d1 h_S_ j).2) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F))]

/-- The code words at those positions. -/
def opsT : List (HloOp τ sig (Elt F)) := [
  StableHlo.nullary main_call1_c ((constantI S_ 32 0#32) : (⟨S_, .i32⟩ : BufTy).Contents (Elt F)),
  StableHlo.unary main_call1_c main_call1_v0 ((broadcastInDim S16384 ![] bcast_S_S16384) : (⟨S_, .i32⟩ : BufTy).Contents (Elt F) → (⟨S16384, .i32⟩ : BufTy).Contents (Elt F)),
  StableHlo.binary main_v14 main_call1_v0 main_call1_v1 ((cmpi .slt) : (⟨S16384, .i32⟩ : BufTy).Contents (Elt F) → (⟨S16384, .i32⟩ : BufTy).Contents (Elt F) → (⟨S16384, .i1⟩ : BufTy).Contents (Elt F)),
  StableHlo.nullary main_call1_c_0 ((constantI S_ 32 8192#32) : (⟨S_, .i32⟩ : BufTy).Contents (Elt F)),
  StableHlo.unary main_call1_c_0 main_call1_v2 ((broadcastInDim S16384 ![] bcast_S_S16384) : (⟨S_, .i32⟩ : BufTy).Contents (Elt F) → (⟨S16384, .i32⟩ : BufTy).Contents (Elt F)),
  StableHlo.binary main_v14 main_call1_v2 main_call1_v3 (addi : (⟨S16384, .i32⟩ : BufTy).Contents (Elt F) → (⟨S16384, .i32⟩ : BufTy).Contents (Elt F) → (⟨S16384, .i32⟩ : BufTy).Contents (Elt F)),
  StableHlo.ternary main_call1_v1 main_call1_v3 main_v14 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
  StableHlo.unary main_call1_v4 main_call1_v5 ((broadcastInDim S16384x1 ![0] bcast_S16384_S16384x1_0) : (⟨S16384, .i32⟩ : BufTy).Contents (Elt F) → (⟨S16384x1, .i32⟩ : BufTy).Contents (Elt F)),
  StableHlo.nullary main_call1_c_1 ((constantI S1 32 8191#32) : (⟨S1, .i32⟩ : BufTy).Contents (Elt F)),
  StableHlo.nullary main_call1_c_2 ((constantI S_ 32 0#32) : (⟨S_, .i32⟩ : BufTy).Contents (Elt F)),
  StableHlo.unary main_call1_c_2 main_call1_v6 ((broadcastInDim S16384x1 ![] bcast_S_S16384x1) : (⟨S_, .i32⟩ : BufTy).Contents (Elt F) → (⟨S16384x1, .i32⟩ : BufTy).Contents (Elt F)),
  StableHlo.binary main_call1_v5 main_call1_v6 main_call1_v7 ((cmpi .sge) : (⟨S16384x1, .i32⟩ : BufTy).Contents (Elt F) → (⟨S16384x1, .i32⟩ : BufTy).Contents (Elt F) → (⟨S16384x1, .i1⟩ : BufTy).Contents (Elt F)),
  StableHlo.unary main_call1_c_1 main_call1_v8 ((broadcastInDim S1x1 ![1] bcast_S1_S1x1_1) : (⟨S1, .i32⟩ : BufTy).Contents (Elt F) → (⟨S1x1, .i32⟩ : BufTy).Contents (Elt F)),
  StableHlo.unary main_call1_v8 main_call1_v9 ((broadcastInDim S16384x1 ![0, 1] bcast_S1x1_S16384x1_0_1) : (⟨S1x1, .i32⟩ : BufTy).Contents (Elt F) → (⟨S16384x1, .i32⟩ : BufTy).Contents (Elt F)),
  StableHlo.binary main_call1_v5 main_call1_v9 main_call1_v10 ((cmpi .sle) : (⟨S16384x1, .i32⟩ : BufTy).Contents (Elt F) → (⟨S16384x1, .i32⟩ : BufTy).Contents (Elt F) → (⟨S16384x1, .i1⟩ : BufTy).Contents (Elt F)),
  StableHlo.binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
  StableHlo.nullary main_call1_c_3 ((constantI S_ 1 1#1) : (⟨S_, .i1⟩ : BufTy).Contents (Elt F)),
  StableHlo.binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
  StableHlo.binary main_arg1 main_call1_v5 main_call1_v13 ((fun x i => Host.gather gather_S8192x64_S16384x1_S16384x64_1_0_n_n_0_1_164 x i) : (⟨S8192x64, .f32⟩ : BufTy).Contents (Elt F) → (⟨S16384x1, .i32⟩ : BufTy).Contents (Elt F) → (⟨S16384x64, .f32⟩ : BufTy).Contents (Elt F)),
  StableHlo.unary main_call1_v12 main_call1_v14 ((broadcastInDim S16384x64 ![0] bcast_S16384_S16384x64_0) : (⟨S16384, .i1⟩ : BufTy).Contents (Elt F) → (⟨S16384x64, .i1⟩ : BufTy).Contents (Elt F)),
  StableHlo.nullary main_call1_cst ((constant S_ .f32 0x7FC00000#32) : (⟨S_, .f32⟩ : BufTy).Contents (Elt F)),
  StableHlo.unary main_call1_cst main_call1_v15 ((broadcastInDim S16384x64 ![] bcast_S_S16384x64) : (⟨S_, .f32⟩ : BufTy).Contents (Elt F) → (⟨S16384x64, .f32⟩ : BufTy).Contents (Elt F)),
  StableHlo.ternary main_call1_v14 main_call1_v13 main_call1_v15 main_v15 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F))]

/-- The straight-through output and the commitment loss. -/
def opsC : List (HloOp τ sig (Elt F)) := [
  StableHlo.binary main_v15 main_arg0 main_v16 (subf : (⟨S16384x64, .f32⟩ : BufTy).Contents (Elt F) → (⟨S16384x64, .f32⟩ : BufTy).Contents (Elt F) → (⟨S16384x64, .f32⟩ : BufTy).Contents (Elt F)),
  StableHlo.binary main_arg0 main_v16 main_v17 (addf : (⟨S16384x64, .f32⟩ : BufTy).Contents (Elt F) → (⟨S16384x64, .f32⟩ : BufTy).Contents (Elt F) → (⟨S16384x64, .f32⟩ : BufTy).Contents (Elt F)),
  StableHlo.binary main_arg0 main_v15 main_v18 (subf : (⟨S16384x64, .f32⟩ : BufTy).Contents (Elt F) → (⟨S16384x64, .f32⟩ : BufTy).Contents (Elt F) → (⟨S16384x64, .f32⟩ : BufTy).Contents (Elt F)),
  StableHlo.binary main_v18 main_v18 main_v19 (mulf : (⟨S16384x64, .f32⟩ : BufTy).Contents (Elt F) → (⟨S16384x64, .f32⟩ : BufTy).Contents (Elt F) → (⟨S16384x64, .f32⟩ : BufTy).Contents (Elt F)),
  StableHlo.nullary main_cst_2 (constant S_ .f32 0x00000000#32),
  StableHlo.binary main_v19 main_cst_2 main_v20 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
  StableHlo.nullary main_cst_3 (constant S_ .f32 0x49800000#32),
  StableHlo.binary main_v20 main_cst_3 main_v21 (Host.divf : (⟨S_, .f32⟩ : BufTy).Contents (Elt F) → (⟨S_, .f32⟩ : BufTy).Contents (Elt F) → (⟨S_, .f32⟩ : BufTy).Contents (Elt F))]

theorem argmin_eq : fn_argmin.body (F := F) (.of main_v13) main_call0 = StableHlo.seq opsM := by
  rfl

theorem take_eq : fn_take.body (F := F) (.of main_arg1) (.of main_v14) main_call1 = StableHlo.seq opsT := by
  show StableHlo.IsSeq _ _
  simp only [fn_take.body, fn_where.body, bind_assoc, pure_bind]
  simp only [StableHlo.TRef.nullary, StableHlo.TRef.unary, StableHlo.TRef.binary, StableHlo.TRef.ternary,
    StableHlo.TRef.toBuf, StableHlo.TRef.ofBuf, cast_eq]
  unfold opsT
  repeat (first | exact StableHlo.IsSeq.nil | apply StableHlo.IsSeq.cons)
  done

/-- The whole program is the four lists in order. -/
theorem main_eq' (d : Dev nD) : main (F := F) d = (StableHlo.seq opsD >>= fun _ =>
    fn_argmin.body (F := F) (.of main_v13) main_call0 >>= fun _ =>
    fn_take.body (F := F) (.of main_arg1) (.of main_v14) main_call1 >>= fun _ => StableHlo.seq opsC) := by
  rfl

theorem main_eq (d : Dev nD) : main (F := F) d = StableHlo.seq (opsD ++ (opsM ++ (opsT ++ opsC))) := by
  rw [main_eq', argmin_eq, take_eq]
  simp only [StableHlo.seq_append]

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons _ _ ih => exact ih _

theorem subD : (opsD (F := F)).Forall fun op => op.bufs ⊆ StableHlo.tcRefs τ sig := by
  simp [opsD]
theorem subM : (opsM (F := F)).Forall fun op => op.bufs ⊆ StableHlo.tcRefs τ sig := by
  simp [opsM]
theorem subT : (opsT (F := F)).Forall fun op => op.bufs ⊆ StableHlo.tcRefs τ sig := by
  simp [opsT]
theorem subC : (opsC (F := F)).Forall fun op => op.bufs ⊆ StableHlo.tcRefs τ sig := by
  simp [opsC]
theorem freshD : (opsD (F := F)).Forall fun op => op.fresh = ∅ := by
  repeat' constructor
theorem freshM : (opsM (F := F)).Forall fun op => op.fresh = ∅ := by
  repeat' constructor
theorem freshT : (opsT (F := F)).Forall fun op => op.fresh = ∅ := by
  repeat' constructor
theorem freshC : (opsC (F := F)).Forall fun op => op.fresh = ∅ := by
  repeat' constructor

theorem forall_app {α : Type _} {p : α → Prop} {a b : List α} (ha : a.Forall p) (hb : b.Forall p) :
    (a ++ b).Forall p := by
  rw [List.forall_iff_forall_mem] at *
  intro x hx
  rcases List.mem_append.1 hx with h | h
  · exact ha x h
  · exact hb x h

/-- What the buffers hold at the start. -/
abbrev V0 (m : (ℓ : Loc nD τ sig) → Buf (Elt F) ℓ) (d : Dev nD) : Valuation τ sig (Elt F) := fun b => m (d, b)

/-- After the distances, the positions, the code words, and at the end. -/
abbrev V1 (m : (ℓ : Loc nD τ sig) → Buf (Elt F) ℓ) (d : Dev nD) : Valuation τ sig (Elt F) := StableHlo.after opsD (V0 m d)
abbrev V2 (m : (ℓ : Loc nD τ sig) → Buf (Elt F) ℓ) (d : Dev nD) : Valuation τ sig (Elt F) := StableHlo.after opsM (V1 m d)
abbrev V3 (m : (ℓ : Loc nD τ sig) → Buf (Elt F) ℓ) (d : Dev nD) : Valuation τ sig (Elt F) := StableHlo.after opsT (V2 m d)
abbrev V4 (m : (ℓ : Loc nD τ sig) → Buf (Elt F) ℓ) (d : Dev nD) : Valuation τ sig (Elt F) := StableHlo.after opsC (V3 m d)

/-- The program runs: every buffer ends at what the operations leave there, and every counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = V4 m d (Proc.devRef .tc b))
        ∧ r.2.sem = fun _ => 0 := by
  refine θ_run_mono (StableHlo.run_hlo (defs (F := F)) (main (F := F)) (ops := opsD ++ (opsM ++ (opsT ++ opsC)))
    main_eq (by decide) (by decide)
    (forall_app subD (forall_app subM (forall_app subT subC)))
    (fun op h => List.forall_iff_forall_mem.1 (forall_app freshD (forall_app freshM (forall_app freshT freshC))) op h) m ρ)
    fun r h => ⟨fun d b => ?_, sem_eq_zero_of_no_sems (by rfl) _⟩
  rw [h d b, after_app, after_app, after_app]

/-! ## What the buffers hold -/

/-- The squared length of each row plus that of each code word, less twice their products. -/
def dist (z : (⟨S16384x64, .f32⟩ : BufTy).Contents (Elt F)) (e : (⟨S8192x64, .f32⟩ : BufTy).Contents (Elt F)) :
    (⟨S16384x8192, .f32⟩ : BufTy).Contents (Elt F) :=
  addf (subf
      (broadcastInDim S16384x8192 ![0, 1] bcast_S16384x1_S16384x8192_0_1
        (broadcastInDim S16384x1 ![0] bcast_S16384_S16384x1_0
          (Host.reduceAdd (mulf z z) (constant S_ .f32 0x00000000#32) reducesTo_S16384x64_S16384_d1 h_S_)))
      (mulf (broadcastInDim S16384x8192 ![] bcast_S_S16384x8192 (constant S_ .f32 0x40000000#32))
        (Host.dotGeneral dot_S16384x64_S64x8192_S16384x8192_1_0_0_1_n_n none z
          (transpose S64x8192 [1, 0] e transposes_S8192x64_S64x8192_1_0))))
    (broadcastInDim S16384x8192 ![0, 1] bcast_S1x8192_S16384x8192_0_1
      (broadcastInDim S1x8192 ![1] bcast_S8192_S1x8192_1
        (Host.reduceAdd (mulf e e) (constant S_ .f32 0x00000000#32) reducesTo_S8192x64_S8192_d1 h_S_)))

/-- The second entries of a function's pairs. -/
def seconds {ι α β : Type} (f : ι → α × β) : ι → β := fun j => (f j).2
theorem seconds_apply {ι α β : Type} (f : ι → α × β) (j : ι) : seconds f j = (f j).2 := rfl

/-- The position of each row's smallest entry. -/
def best (x : FVec F S16384x8192 .f32) : IVec S16384 32 :=
  seconds (Host.argReduce reducer_argmin_f32_i32 x (iotaInDim S16384x8192 32 1) (constant S_ .f32 0x7F800000#32)
    (constantI S_ 32 0#32) reducesTo_S16384x8192_S16384_d1 h_S_)

/-- A position below zero counted from the end, as a column. -/
def wrapped (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- The rows of the table at the positions. -/
def taken (e : (⟨S8192x64, .f32⟩ : BufTy).Contents (Elt F)) (i : (⟨S16384, .i32⟩ : BufTy).Contents (Elt F)) :
    (⟨S16384x64, .f32⟩ : BufTy).Contents (Elt F) :=
  select
    (broadcastInDim S16384x64 ![0] bcast_S16384_S16384x64_0
      (Host.reduce IntOp.andi
        (andi (cmpi .sge (wrapped (F := F) i) (broadcastInDim S16384x1 ![] bcast_S_S16384x1 (constantI S_ 32 0#32)))
          (cmpi .sle (wrapped (F := F) i) (broadcastInDim S16384x1 ![0, 1] bcast_S1x1_S16384x1_0_1
            (broadcastInDim S1x1 ![1] bcast_S1_S1x1_1 (constantI S1 32 8191#32)))))
        (constantI S_ 1 1#1) reducesTo_S16384x1_S16384_d1 h_S_))
    (Host.gather gather_S8192x64_S16384x1_S16384x64_1_0_n_n_0_1_164 e (wrapped (F := F) i))
    (broadcastInDim S16384x64 ![] bcast_S_S16384x64 (constant S_ .f32 0x7FC00000#32))

/-- The mean of the squared differences. -/
def loss (z q : (⟨S16384x64, .f32⟩ : BufTy).Contents (Elt F)) : (⟨S_, .f32⟩ : BufTy).Contents (Elt F) :=
  Host.divf (Host.reduceAdd (mulf (subf z q) (subf z q)) (constant S_ .f32 0x00000000#32) reducesTo_S16384x64_S_d0_1 h_S_)
    (constant S_ .f32 0x49800000#32)

variable (V : Valuation τ sig (Elt F))

theorem D_arg0 : StableHlo.after opsD V (Proc.devRef .tc main_arg0) = V (Proc.devRef .tc main_arg0) := by
  unfold opsD; after_results
theorem D_arg1 : StableHlo.after opsD V (Proc.devRef .tc main_arg1) = V (Proc.devRef .tc main_arg1) := by
  unfold opsD; after_results
theorem D_v13 : StableHlo.after opsD V (Proc.devRef .tc main_v13)
    = dist (F := F) (V (Proc.devRef .tc main_arg0)) (V (Proc.devRef .tc main_arg1)) := by
  unfold opsD; after_results; rfl
theorem M_arg0 : StableHlo.after opsM V (Proc.devRef .tc main_arg0) = V (Proc.devRef .tc main_arg0) := by
  unfold opsM; after_results
theorem M_arg1 : StableHlo.after opsM V (Proc.devRef .tc main_arg1) = V (Proc.devRef .tc main_arg1) := by
  unfold opsM; after_results
theorem M_v14 : StableHlo.after opsM V (Proc.devRef .tc main_v14) = best (F := F) (V (Proc.devRef .tc main_v13)) := by
  unfold opsM; after_results; rfl
theorem T_arg0 : StableHlo.after opsT V (Proc.devRef .tc main_arg0) = V (Proc.devRef .tc main_arg0) := by
  unfold opsT; after_results
theorem T_arg1 : StableHlo.after opsT V (Proc.devRef .tc main_arg1) = V (Proc.devRef .tc main_arg1) := by
  unfold opsT; after_results
theorem T_v14 : StableHlo.after opsT V (Proc.devRef .tc main_v14) = V (Proc.devRef .tc main_v14) := by
  unfold opsT; after_results
theorem T_v15 : StableHlo.after opsT V (Proc.devRef .tc main_v15)
    = taken (F := F) (V (Proc.devRef .tc main_arg1)) (V (Proc.devRef .tc main_v14)) := by
  unfold opsT; after_results; rfl
theorem C_arg0 : StableHlo.after opsC V (Proc.devRef .tc main_arg0) = V (Proc.devRef .tc main_arg0) := by
  unfold opsC; after_results
theorem C_arg1 : StableHlo.after opsC V (Proc.devRef .tc main_arg1) = V (Proc.devRef .tc main_arg1) := by
  unfold opsC; after_results
theorem C_v14 : StableHlo.after opsC V (Proc.devRef .tc main_v14) = V (Proc.devRef .tc main_v14) := by
  unfold opsC; after_results
theorem C_v17 : StableHlo.after opsC V (Proc.devRef .tc main_v17)
    = (addf (V (Proc.devRef .tc main_arg0)) (subf (V (Proc.devRef .tc main_v15)) (V (Proc.devRef .tc main_arg0)))
        : (⟨S16384x64, .f32⟩ : BufTy).Contents (Elt F)) := by
  unfold opsC; after_results
theorem C_v21 : StableHlo.after opsC V (Proc.devRef .tc main_v21)
    = loss (F := F) (V (Proc.devRef .tc main_arg0)) (V (Proc.devRef .tc main_v15)) := by
  unfold opsC; after_results; rfl

variable (m : (ℓ : Loc nD τ sig) → Buf (Elt F) ℓ) (d : Dev nD)

theorem V4_arg0 : V4 m d (Proc.devRef .tc main_arg0) = m ((d.tc : Thread nD τ).loc main_arg0) := by
  rw [V4, C_arg0, V3, T_arg0, V2, M_arg0, V1, D_arg0]
theorem V4_arg1 : V4 m d (Proc.devRef .tc main_arg1) = m ((d.tc : Thread nD τ).loc main_arg1) := by
  rw [V4, C_arg1, V3, T_arg1, V2, M_arg1, V1, D_arg1]
theorem V4_v14 : V4 m d (Proc.devRef .tc main_v14)
    = best (F := F) (dist (m ((d.tc : Thread nD τ).loc main_arg0)) (m ((d.tc : Thread nD τ).loc main_arg1))) := by
  rw [V4, C_v14, V3, T_v14, V2, M_v14, V1, D_v13]
theorem V3_v15 : V3 m d (Proc.devRef .tc main_v15)
    = taken (F := F) (m ((d.tc : Thread nD τ).loc main_arg1))
        (best (F := F) (dist (m ((d.tc : Thread nD τ).loc main_arg0)) (m ((d.tc : Thread nD τ).loc main_arg1)))) := by
  rw [V3, T_v15, V2, M_v14, M_arg1, V1, D_v13, D_arg1]
theorem V3_arg0 : V3 m d (Proc.devRef .tc main_arg0) = m ((d.tc : Thread nD τ).loc main_arg0) := by
  rw [V3, T_arg0, V2, M_arg0, V1, D_arg0]

end Cert.Proof.ReferenceIdeal

end
-- ==== Proof.Read.lean ====
/- Host operations read at an index: a sum along the rows, a sum of everything, rows taken from a table, a mask. -/
module

public import Idealize.ShloMosaic.Lib.IdealHost
public import Idealize.ShloMosaic.Lib.ValueIdx
public import Idealize.ShloMosaic.Lib.ValueIdxCore
public import Idealize.ShloMosaic.Lib.Pipeline.Value
public import Idealize.ShloMosaic.PureOps.Ideal.Laws

@[expose] public section

noncomputable section

namespace Cert.Proof

open Idealize.ShloMosaic
open Idealize.ShloMosaic.ValueIdx (ix1 ix2)

/-- The sum along the rows, at a row. -/
theorem row_sum {R C : Nat} {u : Shape} (x : FVec Ideal ⟨2, ![R, C]⟩ .f32)
    (h : (⟨2, ![R, C]⟩ : Shape).ReducesTo [1] ⟨1, ![R]⟩) (hu : 0 < u.numel) (n : Fin R) :
    Host.reduceAdd x (constant (F := Ideal) u .f32 0x00000000#32) h hu (ix1 n) = ∑ j : Fin C, (x (ix2 n j) : EReal) := by
  have h2 : (⟨2, ![R, C]⟩ : Shape).Reduces [1] ⟨1, ![R]⟩ := ⟨h.1, Nat.one_pos, h.2⟩
  rw [ValueIdx.hostReduceAdd_apply, Ideal.hostReduceAdd_single h h2]
  refine (congrArg (fun a : EReal => a + _) (show constant (F := Ideal) u .f32 0x00000000#32 (Shape.Idx.first hu) = (0 : EReal) from Ideal.ofBits_zero_f32)).trans
    ((zero_add _).trans ?_)
  refine Finset.sum_congr rfl fun k _ => congrArg x (funext fun a => Fin.ext ?_)
  match a with
  | ⟨0, _⟩ => rfl
  | ⟨1, _⟩ => rfl

/-- The sum of everything. -/
theorem all_sum {R C : Nat} {t u : Shape} {axes : List (Fin 2)} (x : FVec Ideal ⟨2, ![R, C]⟩ .f32)
    (h : (⟨2, ![R, C]⟩ : Shape).ReducesTo axes t) (ht : ∀ b, t.size b = 1) (hu : 0 < u.numel) (i : t.Idx) :
    Host.reduceAdd x (constant (F := Ideal) u .f32 0x00000000#32) h hu i = ∑ n : Fin R, ∑ j : Fin C, (x (ix2 n j) : EReal) := by
  rw [ValueIdx.hostReduceAdd_apply, Ideal.hostReduceAdd_total h ht]
  refine (congrArg (fun a : EReal => a + _) (show constant (F := Ideal) u .f32 0x00000000#32 (Shape.Idx.first hu) = (0 : EReal) from Ideal.ofBits_zero_f32)).trans
    ((zero_add _).trans ?_)
  exact ValueIdx.sum_idx2 _

/-- Whole rows of a table, taken at the row numbers of a column. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- An entry of the rows taken. -/
theorem rows_apply {α : Type} {N C R w : Nat} (wf) (x : (⟨2, ![N, C]⟩ : Shape).Idx → α) (idx : IVec ⟨2, ![R, 1]⟩ w) (n : Fin R) (j : Fin C)
    (K : Fin N) (hK : (idx (ix2 n 0)).toInt = (K.val : ℤ)) :
    Host.gather (rowDims N C R wf) x idx (ix2 n j) = x (ix2 K j) := by
  unfold Host.gather
  congr 1
  funext a
  refine Fin.ext ?_
  show (rowDims N C R wf).start (ix2 n j) idx a + (rowDims N C R wf).batchCoord (ix2 n j) a + (rowDims N C R wf).offCoord (ix2 n j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hsi : (rowDims N C R wf).siIdx (ix2 n j) ⟨List.idxOf (0 : Fin 2) (rowDims N C R wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hK]
    show min (Int.toNat (K.val : ℤ)) (N - 1) = K.val
    rw [Int.toNat_natCast]
    omega
  · unfold GatherDims.start
    rw [dif_neg (show ¬ (1 : Fin 2) ∈ (rowDims N C R wf).startIndexMap from by simp), Nat.zero_add]
    unfold GatherDims.offCoord
    rfl

/-- A mask that is one everywhere. -/
theorem and_ones {s t u : Shape} {axes : List (Fin s.rank)} (x : IVec s 1) (init : IVec u 1) (h : s.ReducesTo axes t) (hu : 0 < u.numel)
    (j : t.Idx) (hx : ∀ i, h.drop i = j → x i = 1#1) (hi : init (Shape.Idx.first hu) = 1#1) : Host.reduce IntOp.andi x init h hu j = 1#1 := by
  rw [Host.reduce_eq_foldl, hi]
  have key : ∀ l : List s.Idx, (∀ i ∈ l, x i = 1#1) → l.foldl (fun r i => IntOp.andi r (x i)) 1#1 = 1#1 := by
    intro l
    induction l with
    | nil => intro _; rfl
    | cons a l ih =>
      intro hl
      rw [List.foldl_cons, hl a List.mem_cons_self, show IntOp.andi (1#1) (1#1) = 1#1 from rfl]
      exact ih fun i hi => hl i (List.mem_cons_of_mem _ hi)
  exact key _ fun i hi => hx i (by simpa using (List.mem_filter.1 hi).2)

end Cert.Proof

end
-- ==== Proof.KernelIdeal.Entries.lean ====
/- The program's values over the extended reals, read at an index. -/
module

public import proofs.«01_k».proof.Proof.KernelIdeal.Outcome
public import proofs.«01_k».proof.Proof.Read
public import proofs.«01_k».proof.Proof.KernelIdeal.Results
public import proofs.«01_k».proof.Proof.First
public import Idealize.ShloMosaic.Lib.MatmulPlain
public import Idealize.ShloMosaic.Lib.IdealHost
public import Idealize.ShloMosaic.Lib.ValueIdx
public import Idealize.ShloMosaic.PureOps.Ideal.Laws

@[expose] public section

set_option maxRecDepth 16384

noncomputable section

namespace Cert.Proof.KernelIdeal

open Cert.Proof Cert.KernelIdeal Cert.KernelIdeal.Gen
open Idealize.ShloMosaic hiding ix1 ix2
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)
open Idealize.ShloMosaic.Rounds
open Idealize.ShloMosaic.Pipeline (Dat Window BodyObligation cellOf)

theorem minus_two_word : Ideal.ofBits .f32 0xC0000000#32 = ((-2 : ℝ) : EReal) := by
  simp only [Ideal.ofBits, Ideal.ieee]
  simp
  rw [← EReal.coe_mul]
  exact congrArg Real.toEReal (by norm_num)

theorem zsq_at (z : FVec Ideal S16384x64 .f32) (n : Fin 16384) :
    zsq (F := Ideal) z (ix2 n 0) = ∑ j : Fin 64, (z (ix2 n j) : EReal) * z (ix2 n j) := by
  unfold zsq
  refine (broadcastInDim_apply _ _ _ _ (ix1 n) (fun a => ?_)).trans (row_sum (mulf z z) _ _ n)
  match a with
  | ⟨0, _⟩ => rfl

theorem esq_at (e : FVec Ideal S8192x64 .f32) (k : Fin 8192) :
    esq (F := Ideal) e (ix2 0 k) = ∑ j : Fin 64, (e (ix2 k j) : EReal) * e (ix2 k j) := by
  unfold esq
  refine (shapeCast_apply _ _ _ (ix1 k) ?_).trans (row_sum (mulf e e) _ _ k)
  rw [Shape.rowMajor_val_one, Shape.rowMajor_val_two]
  show k.val = 0 * 8192 + k.val
  omega

theorem neg2_at (e : FVec Ideal S8192x64 .f32) (k : Fin 8192) (j : Fin 64) :
    neg2 (F := Ideal) e (ix2 k j) = ((-2 : ℝ) : EReal) * e (ix2 k j) := by
  unfold neg2
  exact congrArg (fun a : EReal => a * (e (ix2 k j) : EReal)) minus_two_word

/-- The kernel's distance, in the arguments' entries. -/
theorem kdist_at (z : FVec Ideal S16384x64 .f32) (e : FVec Ideal S8192x64 .f32) (n : Fin 16384) (k : Fin 8192) :
    kdist z e n k = (∑ j : Fin 64, (z (ix2 n j) : EReal) * z (ix2 n j))
      + (∑ j : Fin 64, (z (ix2 n j) : EReal) * (((-2 : ℝ) : EReal) * e (ix2 k j)))
      + ∑ j : Fin 64, (e (ix2 k j) : EReal) * e (ix2 k j) := by
  unfold kdist
  exact congrArg₂ (fun a b : EReal => a + b) (congrArg₂ (fun a b : EReal => a + b) (zsq_at z n)
    (Finset.sum_congr rfl fun j _ => congrArg (fun a : EReal => (z (ix2 n j) : EReal) * a) (neg2_at e k j))) (esq_at e k)

theorem table_at (e : FVec Ideal S8192x64 .f32) (k : Fin 8192) (j : Fin 64) :
    table (F := Ideal) e (tableIdx k ⟨j.val, by omega⟩) = e (ix2 k j) := by
  unfold table
  refine concatenate_pair_apply_left (s₁ := S8192x64) (s₂ := S8192x64) (t := S8192x128) 1 e _ _ _ rfl (ix2 k j) (fun b => ?_)
  match b with
  | ⟨0, _⟩ => rfl
  | ⟨1, _⟩ => rfl

/-- The first result, at an index: the code word the list names. -/
theorem slice_at (I : S16384.Idx → Elt Ideal .i32) (e : FVec Ideal S8192x64 .f32) (n : Fin 16384) (j : Fin 64) (K : Fin 8192)
    (h : I (ix1 n) = BitVec.ofNat 32 K.val) :
    extractStridedSlice S16384x64 ![0, 0] (gathered (F := Ideal) I (table (F := Ideal) e)) slices_S16384x128_S16384x64_0_0 (ix2 n j)
      = e (ix2 K j) := by
  refine (extractStridedSlice_apply _ _ _ _ (ix2 n (⟨j.val, by omega⟩ : Fin 128)) (fun a => ?_)).trans ?_
  · match a with
    | ⟨0, _⟩ => exact (Nat.zero_add _).symm
    | ⟨1, _⟩ => exact (Nat.zero_add _).symm
  · have hn : listIdx n = ix1 n := ValueIdx.eq_ix1 (listIdx n)
    have hk : (⟨min (I (listIdx n)).toNat 8191, by omega⟩ : Fin 8192) = K := by
      apply Fin.ext
      show min (I (listIdx n)).toNat 8191 = K.val
      rw [hn, h, BitVec.toNat_ofNat]
      omega
    show table (F := Ideal) e (tableIdx ⟨min (I (listIdx n)).toNat 8191, _⟩ ⟨j.val, _⟩) = _
    rw [hk]
    exact table_at e K j

end Cert.Proof.KernelIdeal

end
-- ==== Proof.ReferenceIdeal.Entries.lean ====
/- What the reference computes over the extended reals, read at an index. -/
module

public import proofs.«01_k».proof.Proof.ReferenceIdeal.Run
public import proofs.«01_k».proof.Proof.Read
public import Idealize.ShloMosaic.Lib.StackMember
public import Idealize.ShloMosaic.Lib.StableHlo.RunHlo
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Cert.ReferenceIdeal.Gen (facts₀ facts)

namespace Cert.Proof.ReferenceIdeal

open Cert.ReferenceIdeal Cert.ReferenceIdeal.Facts₀
open Idealize.ShloMosaic Idealize.ShloMosaic.TcCoe
open Cert.Proof
open Idealize.SL.Sem

/-! ## The distances -/

theorem two_word : Ideal.ofBits .f32 0x40000000#32 = ((2 : ℝ) : EReal) := by
  simp only [Ideal.ofBits, Ideal.ieee]
  simp
  rw [← EReal.coe_mul]
  exact congrArg Real.toEReal (by norm_num)

theorem dist_shape (a : FVec Ideal S16384 .f32) (b : FVec Ideal S16384x8192 .f32) (c : FVec Ideal S8192 .f32) (n : Fin 16384) (k : Fin 8192) :
    addf (subf
      (broadcastInDim S16384x8192 ![0, 1] bcast_S16384x1_S16384x8192_0_1
        (broadcastInDim S16384x1 ![0] bcast_S16384_S16384x1_0 a))
      (mulf (broadcastInDim S16384x8192 ![] bcast_S_S16384x8192 (constant (F := Ideal) S_ .f32 0x40000000#32)) b))
      (broadcastInDim S16384x8192 ![0, 1] bcast_S1x8192_S16384x8192_0_1 (broadcastInDim S1x8192 ![1] bcast_S8192_S1x8192_1 c))
      (ValueIdx.ix2 n k)
      = ((a (ValueIdx.ix1 n) : EReal) - ((2 : ℝ) : EReal) * b (ValueIdx.ix2 n k) + c (ValueIdx.ix1 k) : EReal) := by
  refine congrArg₂ (fun a b : EReal => a + b) (congrArg₂ (fun a b : EReal => a - b) ?_ (congrArg₂ (fun a b : EReal => a * b) ?_ rfl)) ?_
  · refine (broadcastInDim_apply _ _ _ _ (ValueIdx.ix2 n (0 : Fin 1)) (fun a => ?_)).trans (broadcastInDim_apply _ _ _ _ (ValueIdx.ix1 n) (fun a => ?_))
    · match a with
      | ⟨0, _⟩ => rfl
      | ⟨1, _⟩ => rfl
    · match a with
      | ⟨0, _⟩ => rfl
  · exact two_word
  · refine (broadcastInDim_apply _ _ _ _ (ValueIdx.ix2 (0 : Fin 1) k) (fun a => ?_)).trans (broadcastInDim_apply _ _ _ _ (ValueIdx.ix1 k) (fun a => ?_))
    · match a with
      | ⟨0, _⟩ => rfl
      | ⟨1, _⟩ => rfl
    · match a with
      | ⟨0, _⟩ => rfl

theorem dist_at (z : FVec Ideal S16384x64 .f32) (e : FVec Ideal S8192x64 .f32) (n : Fin 16384) (k : Fin 8192) :
    dist (F := Ideal) z e (ValueIdx.ix2 n k)
      = ((∑ j : Fin 64, (z (ValueIdx.ix2 n j) : EReal) * z (ValueIdx.ix2 n j))
          - ((2 : ℝ) : EReal) * (∑ j : Fin 64, (z (ValueIdx.ix2 n j) : EReal) * e (ValueIdx.ix2 k j))
        + ∑ j : Fin 64, (e (ValueIdx.ix2 k j) : EReal) * e (ValueIdx.ix2 k j) : EReal) := by
  unfold dist
  refine (dist_shape _ _ _ n k).trans ?_
  refine congrArg₂ (fun a b : EReal => a + b) (congrArg₂ (fun a b : EReal => a - b) ?_ (congrArg (fun a : EReal => ((2 : ℝ) : EReal) * a) ?_)) ?_
  · exact row_sum (mulf z z) _ _ n
  · refine (StackMember.dotGeneral_plain_apply (m := 16384) (k := 64) (n := 8192) none z (transpose S64x8192 [1, 0] e transposes_S8192x64_S64x8192_1_0) n k).trans ?_
    refine Finset.sum_congr rfl fun j _ => congrArg (fun a : EReal => (z (ValueIdx.ix2 n j) : EReal) * a) ?_
    refine transpose_apply _ _ _ _ (ValueIdx.ix2 k j) (fun b => ?_)
    match b with
    | ⟨0, _⟩ => rfl
    | ⟨1, _⟩ => rfl
  · exact row_sum (mulf e e) _ _ k

/-! ## The rows taken -/

theorem toInt_num (K : Fin 8192) : (BitVec.ofNat 32 K.val).toInt = (K.val : ℤ) := by
  rw [BitVec.toInt_eq_toNat_of_lt (by rw [BitVec.toNat_ofNat]; omega), BitVec.toNat_ofNat, Nat.mod_eq_of_lt (by omega)]

theorem toInt_top : (8191#32 : BitVec 32).toInt = 8191 := by decide
theorem toInt_zero : (0#32 : BitVec 32).toInt = 0 := by decide

theorem num_slt (K : Fin 8192) : IntOp.cmpi .slt (BitVec.ofNat 32 K.val) 0#32 = 0#1 := by
  show BitVec.ofBool (BitVec.slt _ _) = _
  rw [BitVec.slt, toInt_num, toInt_zero, decide_eq_false (by omega)]; rfl
theorem num_sge (K : Fin 8192) : IntOp.cmpi .sge (BitVec.ofNat 32 K.val) 0#32 = 1#1 := by
  show BitVec.ofBool (BitVec.sle _ _) = _
  rw [BitVec.sle, toInt_num, toInt_zero, decide_eq_true (by omega)]; rfl
theorem num_sle (K : Fin 8192) : IntOp.cmpi .sle (BitVec.ofNat 32 K.val) 8191#32 = 1#1 := by
  show BitVec.ofBool (BitVec.sle _ _) = _
  rw [BitVec.sle, toInt_num, toInt_top, decide_eq_true (by omega)]; rfl

theorem pick_at (i a b : IVec S16384 32) (n : Fin 16384) (K : Fin 8192) (h : i (ValueIdx.ix1 n) = BitVec.ofNat 32 K.val)
    (ha : a (ValueIdx.ix1 n) = 0#32) : select (cmpi .slt i a) b i (ValueIdx.ix1 n) = BitVec.ofNat 32 K.val := by
  have hc : cmpi .slt i a (ValueIdx.ix1 n) = 0#1 := by
    show IntOp.cmpi .slt (i (ValueIdx.ix1 n)) (a (ValueIdx.ix1 n)) = 0#1
    rw [h, ha]; exact num_slt K
  show (if cmpi .slt i a (ValueIdx.ix1 n) = 1#1 then b (ValueIdx.ix1 n) else i (ValueIdx.ix1 n)) = _
  rw [hc, if_neg (by decide)]; exact h

theorem wrapped_at (i : IVec S16384 32) (n : Fin 16384) (K : Fin 8192) (h : i (ValueIdx.ix1 n) = BitVec.ofNat 32 K.val) (o : Fin 1) :
    wrapped (F := Ideal) i (ValueIdx.ix2 n o) = BitVec.ofNat 32 K.val := by
  unfold wrapped
  refine (broadcastInDim_apply _ _ _ _ (ValueIdx.ix1 n) (fun a => ?_)).trans (pick_at _ _ _ n K h rfl)
  match a with
  | ⟨0, _⟩ => rfl

theorem mask_at (w a b : IVec S16384x1 32) (n : Fin 16384) (o : Fin 1) (K : Fin 8192) (h : w (ValueIdx.ix2 n o) = BitVec.ofNat 32 K.val)
    (ha : a (ValueIdx.ix2 n o) = 0#32) (hb : b (ValueIdx.ix2 n o) = 8191#32) :
    andi (cmpi .sge w a) (cmpi .sle w b) (ValueIdx.ix2 n o) = 1#1 := by
  show IntOp.andi (IntOp.cmpi .sge (w (ValueIdx.ix2 n o)) (a (ValueIdx.ix2 n o))) (IntOp.cmpi .sle (w (ValueIdx.ix2 n o)) (b (ValueIdx.ix2 n o))) = _
  rw [h, ha, hb, num_sge, num_sle]; rfl

theorem pick_true (c : IVec S16384 1) (x y : FVec Ideal S16384x64 .f32) (n : Fin 16384) (j : Fin 64) (h : c (ValueIdx.ix1 n) = 1#1) :
    select (broadcastInDim S16384x64 ![0] bcast_S16384_S16384x64_0 c) x y (ValueIdx.ix2 n j) = x (ValueIdx.ix2 n j) := by
  have hc : broadcastInDim S16384x64 ![0] bcast_S16384_S16384x64_0 c (ValueIdx.ix2 n j) = 1#1 := by
    refine (broadcastInDim_apply _ _ _ _ (ValueIdx.ix1 n) (fun a => ?_)).trans h
    match a with
    | ⟨0, _⟩ => rfl
  show (if broadcastInDim S16384x64 ![0] bcast_S16384_S16384x64_0 c (ValueIdx.ix2 n j) = 1#1 then x (ValueIdx.ix2 n j) else y (ValueIdx.ix2 n j)) = _
  rw [hc, if_pos rfl]

/-- The row taken at a position that names a row of the table. -/
theorem taken_at (e : FVec Ideal S8192x64 .f32) (i : IVec S16384 32) (n : Fin 16384) (j : Fin 64) (K : Fin 8192)
    (h : i (ValueIdx.ix1 n) = BitVec.ofNat 32 K.val) :
    taken (F := Ideal) e i (ValueIdx.ix2 n j) = e (ValueIdx.ix2 K j) := by
  unfold taken
  refine (pick_true _ _ _ n j ?_).trans ?_
  · refine and_ones _ _ _ _ _ (fun a ha => ?_) rfl
    have hn : a = ValueIdx.ix2 n (a 1) := by
      refine (ValueIdx.eq_ix2 a).trans ?_
      exact congrArg (fun b => ValueIdx.ix2 b (a 1)) (congrFun ha 0)
    rw [hn]
    exact mask_at _ _ _ n (a 1) K (wrapped_at i n K h _) rfl rfl
  · refine rows_apply _ e _ n j K ?_
    exact (congrArg BitVec.toInt (wrapped_at i n K h 0)).trans (toInt_num K)

/-- The mean of the squared differences. -/
theorem loss_at (z q : FVec Ideal S16384x64 .f32) (i : S_.Idx) :
    loss (F := Ideal) z q i = Ideal.div (∑ n : Fin 16384, ∑ j : Fin 64,
      ((z (ValueIdx.ix2 n j) : EReal) - q (ValueIdx.ix2 n j)) * ((z (ValueIdx.ix2 n j) : EReal) - q (ValueIdx.ix2 n j)))
      (Ideal.ofBits .f32 0x49800000#32) := by
  unfold loss
  exact congrArg (fun a : EReal => Ideal.div a (Ideal.ofBits .f32 0x49800000#32))
    (all_sum (mulf (subf z q) (subf z q)) _ (fun b => b.elim0) _ i)

end Cert.Proof.ReferenceIdeal

end
-- ==== Proof.ReferenceIdeal.Value.lean ====
/- What the reference computes over the extended reals. -/
module

public import proofs.«01_k».proof.Proof.ReferenceIdeal.Run
public import proofs.«01_k».proof.Proof.First
public import Idealize.ShloMosaic.Lib.IdealHost
public import Idealize.ShloMosaic.Lib.ValueIdx
public import Idealize.ShloMosaic.Lib.Pipeline.Value
public import Idealize.ShloMosaic.Lib.StackMember
public import Idealize.ShloMosaic.PureOps.Ideal.Laws
public import Idealize.ShloMosaic.Lib.StableHlo.RunHlo
public import Idealize.ShloMosaic.Lib.StableHlo.RunRead
public import Idealize.ShloMosaic.Lib.Quiescent
public import Idealize.ShloMosaic.Adequacy
public import Idealize.ShloMosaic.Init

@[expose] public section

set_option maxRecDepth 16384

noncomputable section

open Cert.ReferenceIdeal.Gen (facts₀ facts)

namespace Cert.Proof.ReferenceIdeal

open Cert.ReferenceIdeal Cert.ReferenceIdeal.Facts₀
open Idealize.ShloMosaic Idealize.ShloMosaic.TcCoe
open Cert.Proof
open Idealize.SL.Sem

/-! ## The search for the least entry -/

/-- Of two pairs the search keeps one, the better of them. -/
theorem reducer_better (a b : Ideal .f32 × BitVec 32) (ha : a.2.toNat < 8192) (hb : b.2.toNat < 8192) :
    (reducer_argmin_f32_i32 (F := Ideal) a b = a ∨ reducer_argmin_f32_i32 (F := Ideal) a b = b)
    ∧ better ((reducer_argmin_f32_i32 (F := Ideal) a b).1, (reducer_argmin_f32_i32 (F := Ideal) a b).2.toNat) (a.1, a.2.toNat)
    ∧ better ((reducer_argmin_f32_i32 (F := Ideal) a b).1, (reducer_argmin_f32_i32 (F := Ideal) a b).2.toNat) (b.1, b.2.toNat) := by
  obtain ⟨x, i⟩ := a
  obtain ⟨y, j⟩ := b
  have hs : IntOp.cmpi .slt i j = BitVec.ofBool (decide (i.toNat < j.toNat)) := by
    show BitVec.ofBool (i.slt j) = _
    refine congrArg BitVec.ofBool ?_
    rw [BitVec.slt_eq_decide, BitVec.toInt_eq_toNat_of_lt (by dsimp only at ha; omega), BitVec.toInt_eq_toNat_of_lt (by dsimp only at hb; omega)]
    simp
  have e : reducer_argmin_f32_i32 (F := Ideal) (x, i) (y, j)
      = if (x : EReal) < y ∨ ((x : EReal) = y ∧ i.toNat < j.toNat) then (x, i) else (y, j) := by
    unfold reducer_argmin_f32_i32
    dsimp only
    rw [hs, show FloatOps.cmpf (F := Ideal) (φ := .f32) .olt x y = BitVec.ofBool (decide ((x : EReal) < y)) from rfl,
      show FloatOps.cmpf (F := Ideal) (φ := .f32) .une x x = BitVec.ofBool (decide ((x : EReal) ≠ x)) from rfl,
      show FloatOps.cmpf (F := Ideal) (φ := .f32) .oeq x y = BitVec.ofBool (decide ((x : EReal) = y)) from rfl]
    by_cases h1 : (x : EReal) < y <;> by_cases h2 : (x : EReal) = y <;> by_cases h3 : i.toNat < j.toNat <;>
      simp [h1, h2, h3, Scalar.select, IntOp.ori, IntOp.andi]
  rw [e]
  split
  · rename_i h
    refine ⟨Or.inl rfl, better_refl _, ?_⟩
    rcases h with h | ⟨h, h'⟩
    · exact Or.inl h
    · exact Or.inr ⟨h, h'.le⟩
  · rename_i h
    push Not at h
    refine ⟨Or.inr rfl, ?_, better_refl _⟩
    rcases lt_or_eq_of_le h.1 with l | l
    · exact Or.inl l
    · exact Or.inr ⟨l, h.2 l.symm⟩

theorem mem_fiber (x : FVec Ideal S16384x8192 .f32) (n : Fin 16384) (p : Ideal .f32 × BitVec 32) :
    p ∈ Host.argReduceFiber x (iotaInDim S16384x8192 32 1) reducesTo_S16384x8192_S16384_d1 (ValueIdx.ix1 n)
      ↔ ∃ k : Fin 8192, p = (x (ValueIdx.ix2 n k), BitVec.ofNat 32 k.val) := by
  have hd : ∀ i : S16384x8192.Idx, reducesTo_S16384x8192_S16384_d1.drop i = ValueIdx.ix1 n ↔ i 0 = n := by
    intro i
    constructor
    · intro h
      have := congrFun h 0
      exact Fin.ext (congrArg Fin.val this)
    · intro h
      funext a
      obtain rfl : a = (0 : Fin 1) := Subsingleton.elim (α := Fin 1) _ _
      exact Fin.ext (congrArg Fin.val h)
  unfold Host.argReduceFiber
  rw [List.mem_map]
  constructor
  · rintro ⟨q, hq, rfl⟩
    have h0 := (hd _).1 (of_decide_eq_true (List.mem_filter.1 hq).2)
    refine ⟨(S16384x8192.rowMajor.symm q) 1, ?_⟩
    have e : S16384x8192.rowMajor.symm q = ValueIdx.ix2 n ((S16384x8192.rowMajor.symm q) 1) := by
      funext a
      match a with
      | ⟨0, _⟩ => exact h0
      | ⟨1, _⟩ => rfl
    exact Prod.ext (congrArg x e) rfl
  · rintro ⟨k, rfl⟩
    refine ⟨S16384x8192.rowMajor (ValueIdx.ix2 n k), List.mem_filter.2 ⟨List.mem_finRange _, decide_eq_true ((hd _).2 ?_)⟩, ?_⟩
    · rw [Equiv.symm_apply_apply]
    · rw [Equiv.symm_apply_apply]; rfl

/-- A search over the entries of a row with their places finds the place of the first of the least entries. -/
theorem fold_first (D : Fin 8192 → EReal) (l : List (Ideal .f32 × BitVec 32))
    (hl : ∀ p, p ∈ l ↔ ∃ k : Fin 8192, p = ((D k : Ideal .f32), BitVec.ofNat 32 k.val)) (a : Ideal .f32 × BitVec 32) (ha1 : a.1 = (⊤ : EReal)) (ha2 : a.2 = 0#32) :
    ∃ K : Fin 8192, FirstMin D K ∧ (l.foldl (reducer_argmin_f32_i32 (F := Ideal)) a).2 = BitVec.ofNat 32 K.val := by
  have hlt : ∀ k : Fin 8192, (BitVec.ofNat 32 k.val).toNat = k.val := fun k => by rw [BitVec.toNat_ofNat]; omega
  have hfold := foldl_better (α := Ideal .f32 × BitVec 32) (fun p => (p.1, p.2.toNat)) (fun p => p.2.toNat < 8192)
    (reducer_argmin_f32_i32 (F := Ideal))
    (fun a b ha hb => by rcases (reducer_better a b ha hb).1 with h | h <;> rw [h] <;> assumption)
    (fun a b ha hb => reducer_better a b ha hb) l a (by rw [ha2]; decide)
    (fun b hb => by obtain ⟨k, rfl⟩ := (hl b).1 hb; show (BitVec.ofNat 32 k.val).toNat < 8192; rw [hlt]; exact k.isLt)
  obtain ⟨h1, -, h3⟩ := hfold
  generalize l.foldl (reducer_argmin_f32_i32 (F := Ideal)) a = p at h1 h3 ⊢
  have hall : ∀ k : Fin 8192, better (p.1, p.2.toNat) (D k, k.val) := fun k => by
    have := h3 _ ((hl _).2 ⟨k, rfl⟩)
    dsimp only at this
    rwa [hlt] at this
  have key : ∀ K : Fin 8192, p.1 = D K → p.2 = BitVec.ofNat 32 K.val →
      ∃ K : Fin 8192, FirstMin D K ∧ p.2 = BitVec.ofNat 32 K.val := by
    intro K e1 e2
    rw [e1, e2, hlt] at hall
    refine ⟨K, ⟨fun j => ?_, fun j hj => ?_⟩, e2⟩
    · rcases hall j with h | ⟨h, -⟩
      · exact h.le
      · exact h.le
    · rcases hall j with h | ⟨-, h⟩
      · exact h
      · exact absurd h (not_le.2 hj)
  rcases h1 with h1 | h1
  · refine key 0 ?_ (by rw [h1, ha2]; rfl)
    rcases hall 0 with h | ⟨h, -⟩
    · rw [h1, ha1] at h; exact absurd h not_top_lt
    · exact h
  · obtain ⟨K, hK⟩ := (hl p).1 h1
    exact key K (congrArg Prod.fst hK) (congrArg Prod.snd hK)

theorem best_fold (x : FVec Ideal S16384x8192 .f32) (j : S16384.Idx) : best (F := Ideal) x j
    = ((Host.argReduceFiber x (iotaInDim S16384x8192 32 1) reducesTo_S16384x8192_S16384_d1 j).foldl (reducer_argmin_f32_i32 (F := Ideal))
        (constant (F := Ideal) S_ .f32 0x7F800000#32 (Shape.Idx.first h_S_), constantI S_ 32 0#32 (Shape.Idx.first h_S_))).2 := by
  unfold best
  rw [seconds_apply]
  exact congrArg Prod.snd ((congrFun (Ideal.argReduce_eq_reduce2 _ _ _ _ _ _ _) j).trans (Host.reduce2_eq_foldl_fiber _ _ _ _ _ _ _ j))

theorem top_word (i : S_.Idx) : constant (F := Ideal) S_ .f32 0x7F800000#32 i = (⊤ : EReal) := by
  show Ideal.ofBits .f32 0x7F800000#32 = _
  simp [Ideal.ofBits, Ideal.ieee]

/-- The position the reference finds is that of the first of the least entries. -/
theorem best_first (x : FVec Ideal S16384x8192 .f32) (n : Fin 16384) :
    ∃ K : Fin 8192, FirstMin (fun k => (x (ValueIdx.ix2 n k) : EReal)) K ∧ best (F := Ideal) x (ValueIdx.ix1 n) = BitVec.ofNat 32 K.val := by
  rw [best_fold]
  exact fold_first _ _ (mem_fiber x n) _ (top_word (Shape.Idx.first h_S_)) rfl

end Cert.Proof.ReferenceIdeal

end
-- ==== Proof.Reals.lean ====
/- Sums of finite extended reals, and the two ways of writing a squared distance. -/
module

public import Idealize.ShloMosaic.Lib.IdealHost
public import Idealize.ShloMosaic.PureOps.Ideal.Laws

@[expose] public section

noncomputable section

namespace Cert.Proof

theorem coe_total {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

variable {ι : Type} [Fintype ι] (z e : ι → ℝ)

theorem square_kernel : (∑ j, (z j : EReal) * (z j : EReal)) + (∑ j, (z j : EReal) * (((-2 : ℝ) : EReal) * (e j : EReal)))
    + (∑ j, (e j : EReal) * (e j : EReal)) = ((∑ j, (z j - e j) * (z j - e j) : ℝ) : EReal) := by
  simp only [← EReal.coe_mul, coe_total, ← EReal.coe_add, ← Finset.sum_add_distrib]
  exact congrArg Real.toEReal (Finset.sum_congr rfl fun j _ => by ring)

theorem square_reference : (∑ j, (z j : EReal) * (z j : EReal)) - ((2 : ℝ) : EReal) * (∑ j, (z j : EReal) * (e j : EReal))
    + (∑ j, (e j : EReal) * (e j : EReal)) = ((∑ j, (z j - e j) * (z j - e j) : ℝ) : EReal) := by
  simp only [← EReal.coe_mul, coe_total, ← EReal.coe_add, ← EReal.coe_sub]
  refine congrArg Real.toEReal ?_
  rw [Finset.mul_sum, ← Finset.sum_sub_distrib, ← Finset.sum_add_distrib]
  exact Finset.sum_congr rfl fun j _ => by ring

theorem square_apart : (∑ j, ((z j : EReal) - (e j : EReal)) * ((z j : EReal) - (e j : EReal))) = ((∑ j, (z j - e j) * (z j - e j) : ℝ) : EReal) := by
  simp only [← EReal.coe_sub, ← EReal.coe_mul, coe_total]

theorem add_back (a b : ℝ) : (a : EReal) + ((b : EReal) - (a : EReal)) = (b : EReal) := by
  rw [← EReal.coe_sub, ← EReal.coe_add]
  exact congrArg Real.toEReal (by ring)

/-- A sum over the rows, block by block. -/
theorem block_sum (f : Fin 16384 → EReal) : ∑ n, f n
    = ∑ t : Fin 16, ∑ r : Fin 1024, f ⟨t.val * 1024 + r.val, by omega⟩ := by
  rw [← Fintype.sum_prod_type' (fun (t : Fin 16) (r : Fin 1024) => f ⟨t.val * 1024 + r.val, by omega⟩)]
  refine (Fintype.sum_equiv (finProdFinEquiv (m := 16) (n := 1024)) _ _ fun p => ?_).symm
  refine congrArg f (Fin.ext ?_)
  show p.1.val * 1024 + p.2.val = p.2.val + 1024 * p.1.val
  omega

end Cert.Proof

end
-- ==== Proof.Finite.lean ====
/- What the condition on the arguments says: every entry is a finite number. -/
module

public import proofs.«01_k».proof.Pre_finite
public import proofs.«01_k».proof.Proof.Read
public import Idealize.ShloMosaic.Lib.IdealHost
public import Idealize.ShloMosaic.Lib.ValueIdx
public import Idealize.ShloMosaic.PureOps.Ideal.Laws

@[expose] public section

noncomputable section

namespace Cert.Proof.Finite

open Idealize.ShloMosaic Cert.Pre_finite

/-- The condition's side conditions hold. -/
theorem facts : Cert.Pre_finite.Facts where
  bcast_S_S16384x64 := by decide
  reducesTo_S16384x64_S_d0_1 := by decide
  h_S_ := by decide
  bcast_S_S8192x64 := by decide
  reducesTo_S8192x64_S_d0_1 := by decide

theorem andi_one {a b : BitVec 1} (h : IntOp.andi a b = 1#1) : a = 1#1 ∧ b = 1#1 := by
  revert a b; decide

/-- A reduction by "and" that gives one was over ones. -/
theorem ones_of_and {s u : Shape} {axes : List (Fin s.rank)} (x : IVec s 1) (init : IVec u 1) (h : s.ReducesTo axes S_) (hu : 0 < u.numel)
    (j : S_.Idx) (hr : Host.reduce IntOp.andi x init h hu j = 1#1) (i : s.Idx) : x i = 1#1 := by
  rw [Host.reduce_eq_foldl] at hr
  have key : ∀ (l : List s.Idx) (r : BitVec 1), l.foldl (fun r i => IntOp.andi r (x i)) r = 1#1 → r = 1#1 ∧ ∀ i ∈ l, x i = 1#1 := by
    intro l
    induction l with
    | nil => exact fun r h => ⟨h, fun i hi => absurd hi List.not_mem_nil⟩
    | cons a l ih =>
      intro r h
      obtain ⟨h1, h2⟩ := ih _ h
      obtain ⟨h3, h4⟩ := andi_one h1
      exact ⟨h3, fun i hi => (List.mem_cons.1 hi).elim (fun e => e ▸ h4) (h2 i)⟩
  refine (key _ _ hr).2 i (List.mem_filter.2 ⟨?_, ?_⟩)
  · exact List.mem_map.2 ⟨s.rowMajor i, List.mem_finRange _, s.rowMajor.symm_apply_apply i⟩
  · simpa using (funext fun b => b.elim0 : h.drop i = j)

theorem top_word : Ideal.ofBits .f32 0x7F800000#32 = (⊤ : EReal) := by
  simp [Ideal.ofBits, Ideal.ieee]

/-- An extended real whose size is below infinity is a real. -/
theorem real_of_lt (x : EReal) (h : Ideal.cmp .olt (max x (-x)) (⊤ : EReal) = 1#1) : ∃ a : ℝ, x = (a : EReal) := by
  have hlt : max x (-x) < (⊤ : EReal) := by
    by_contra hn
    simp [Ideal.cmp, hn] at h
  induction x with
  | bot => exact absurd hlt (by simp)
  | coe a => exact ⟨a, rfl⟩
  | top => exact absurd hlt (by simp)

theorem entry_real {s : Shape} (x : FVec Ideal s .f32) (h : S_.BroadcastsInDim s ![]) (i : s.Idx)
    (hi : cmpf .olt (Host.absf x) (broadcastInDim s ![] h (constant (F := Ideal) S_ .f32 0x7F800000#32)) i = 1#1) :
    ∃ a : ℝ, (x i : EReal) = (a : EReal) := by
  refine real_of_lt (x i) ?_
  rw [← hi]
  show Ideal.cmp .olt (max (x i) (-(x i))) ⊤ = Ideal.cmp .olt (max (x i) (-(x i))) (Ideal.ofBits .f32 0x7F800000#32)
  rw [top_word]

/-- Under the condition both arguments are arrays of reals. -/
theorem reals [Cert.Pre_finite.Facts] (z : FVec Ideal S16384x64 .f32) (e : FVec Ideal S8192x64 .f32)
    (h : fn (F := Ideal) z e = fun _ => 1#1) :
    (∃ z' : Fin 16384 → Fin 64 → ℝ, ∀ n j, (z (ValueIdx.ix2 n j) : EReal) = (z' n j : EReal))
    ∧ ∃ e' : Fin 8192 → Fin 64 → ℝ, ∀ k j, (e (ValueIdx.ix2 k j) : EReal) = (e' k j : EReal) := by
  obtain ⟨h1, h2⟩ := andi_one (congrFun h (Shape.Idx.first Facts.h_S_))
  have hz := fun n j => entry_real z _ (ValueIdx.ix2 n j) (ones_of_and _ _ _ _ _ h1 (ValueIdx.ix2 n j))
  have he := fun k j => entry_real e _ (ValueIdx.ix2 k j) (ones_of_and _ _ _ _ _ h2 (ValueIdx.ix2 k j))
  exact ⟨⟨fun n j => (hz n j).choose, fun n j => (hz n j).choose_spec⟩, ⟨fun k j => (he k j).choose, fun k j => (he k j).choose_spec⟩⟩

end Cert.Proof.Finite

end
-- ==== Proof.Equal.lean ====
/- The two programs' results are the same. -/
module

public import proofs.«01_k».proof.Proof.KernelIdeal.Entries
public import proofs.«01_k».proof.Proof.ReferenceIdeal.Entries
public import proofs.«01_k».proof.Proof.ReferenceIdeal.Value
public import proofs.«01_k».proof.Proof.Reals
public import proofs.«01_k».proof.Proof.Finite

@[expose] public section

set_option maxRecDepth 16384

noncomputable section

namespace Cert.Proof.Equal

open Idealize.ShloMosaic Cert.Proof
open Cert.KernelIdeal (nD τ sig S16384 S16384x64 S8192x64 S_)
open Cert.Proof.KernelIdeal (kdist argZ argE found least rowAt psum)

/-- The squared distance of a row to a code word. -/
def apart (z : Fin 16384 → Fin 64 → ℝ) (e : Fin 8192 → Fin 64 → ℝ) (n : Fin 16384) (k : Fin 8192) : ℝ :=
  ∑ j : Fin 64, (z n j - e k j) * (z n j - e k j)

/-- The reference's distances, the positions it finds and the rows it takes, as arrays of extended reals. -/
def distOf (z : FVec Ideal S16384x64 .f32) (e : FVec Ideal S8192x64 .f32) : FVec Ideal Cert.ReferenceIdeal.S16384x8192 .f32 :=
  ReferenceIdeal.dist (F := Ideal) z e
def bestOf (z : FVec Ideal S16384x64 .f32) (e : FVec Ideal S8192x64 .f32) : IVec S16384 32 := ReferenceIdeal.best (F := Ideal) (distOf z e)
def takenOf (z : FVec Ideal S16384x64 .f32) (e : FVec Ideal S8192x64 .f32) : FVec Ideal S16384x64 .f32 :=
  ReferenceIdeal.taken (F := Ideal) e (bestOf z e)

section

variable {z : FVec Ideal S16384x64 .f32} {e : FVec Ideal S8192x64 .f32} {z' : Fin 16384 → Fin 64 → ℝ} {e' : Fin 8192 → Fin 64 → ℝ}
  (hz : ∀ n j, (z (ValueIdx.ix2 n j) : EReal) = (z' n j : EReal)) (he : ∀ k j, (e (ValueIdx.ix2 k j) : EReal) = (e' k j : EReal))

include hz he

theorem kdist_real (n : Fin 16384) (k : Fin 8192) : kdist z e n k = (apart z' e' n k : EReal) := by
  rw [KernelIdeal.kdist_at]
  simp only [hz, he]
  exact square_kernel (z' n) (e' k)

theorem dist_real (n : Fin 16384) (k : Fin 8192) :
    (distOf z e (ValueIdx.ix2 n k) : EReal) = (apart z' e' n k : EReal) := by
  refine (ReferenceIdeal.dist_at z e n k).trans ?_
  simp only [hz, he]
  exact square_reference (z' n) (e' k)

/-- Both compute the same distances, so the reference's position is that of the kernel's first least distance. -/
theorem best_is (n : Fin 16384) (K : Fin 8192) (hK : FirstMin (kdist z e n) K) :
    bestOf z e (ValueIdx.ix1 n) = BitVec.ofNat 32 K.val := by
  obtain ⟨K', h1, h2⟩ := ReferenceIdeal.best_first (distOf z e) n
  have hf : (fun k => (distOf z e (ValueIdx.ix2 n k) : EReal)) = kdist z e n :=
    funext fun k => (dist_real hz he n k).trans (kdist_real hz he n k).symm
  rw [hf] at h1
  refine h2.trans ?_
  rw [h1.unique hK]

theorem taken_is (n : Fin 16384) (K : Fin 8192) (hK : FirstMin (kdist z e n) K) (j : Fin 64) :
    takenOf z e (ValueIdx.ix2 n j) = e (ValueIdx.ix2 K j) :=
  ReferenceIdeal.taken_at e _ n j K (best_is hz he n K hK)

/-- A row's squared differences add up to its least distance. -/
theorem row_is (n : Fin 16384) (K : Fin 8192) (hK : FirstMin (kdist z e n) K) :
    (∑ j : Fin 64, ((z (ValueIdx.ix2 n j) : EReal) - takenOf z e (ValueIdx.ix2 n j))
      * ((z (ValueIdx.ix2 n j) : EReal) - takenOf z e (ValueIdx.ix2 n j)))
      = kdist z e n K := by
  rw [kdist_real hz he]
  refine Eq.trans (Finset.sum_congr rfl fun j _ => ?_) (square_apart (z' n) (e' K))
  rw [taken_is hz he n K hK j, hz, he]

end

variable (m : (ℓ : Loc nD τ sig) → Buf (Elt Ideal) ℓ) (d : Dev nD) {z' : Fin 16384 → Fin 64 → ℝ} {e' : Fin 8192 → Fin 64 → ℝ}
  (hz : ∀ n j, (argZ m d (ValueIdx.ix2 n j) : EReal) = (z' n j : EReal))
  (he : ∀ k j, (argE m d (ValueIdx.ix2 k j) : EReal) = (e' k j : EReal))

include hz he

/-- The positions. -/
theorem positions : found m d = bestOf (argZ m d) (argE m d) := by
  funext i
  rw [ValueIdx.eq_ix1 i]
  obtain ⟨K, h1, h2⟩ := KernelIdeal.found_first m d (i 0)
  exact h2.trans (best_is hz he (i 0) K h1).symm

theorem row_entry (n : Fin 16384) (j : Fin 64) :
    KernelIdeal.V5 m d (Proc.devRef .tc Cert.KernelIdeal.main_v15) (ValueIdx.ix2 n j)
      = (addf (argZ m d) (subf (takenOf (argZ m d) (argE m d)) (argZ m d)) : FVec Ideal S16384x64 .f32) (ValueIdx.ix2 n j) := by
  rw [KernelIdeal.V5_v15]
  obtain ⟨K, h1, h2⟩ := KernelIdeal.found_first m d n
  refine (KernelIdeal.slice_at (found m d) (argE m d) n j K h2).trans ?_
  refine Eq.trans ?_ (congrArg (fun a : EReal => (argZ m d (ValueIdx.ix2 n j) : EReal) + (a - argZ m d (ValueIdx.ix2 n j)))
    (taken_is hz he n K h1 j).symm)
  refine (he K j).trans ((add_back (z' n j) (e' K j)).symm.trans ?_)
  exact congrArg₂ (fun a b : EReal => a + (b - a)) (hz n j).symm (he K j).symm

/-- The rows. -/
theorem rows : KernelIdeal.V5 m d (Proc.devRef .tc Cert.KernelIdeal.main_v15)
    = (addf (argZ m d) (subf (takenOf (argZ m d) (argE m d)) (argZ m d)) : FVec Ideal S16384x64 .f32) := by
  funext i
  have hi : i = ValueIdx.ix2 (i 0) (i 1) := ValueIdx.eq_ix2 i
  rw [hi]
  exact row_entry m d hz he (i 0) (i 1)

/-- The sum of a point's least distances is that of its rows' squared differences. -/
theorem psum_is (t : Fin 16) : psum m d t.val
    = ∑ r : Fin 1024, ∑ j : Fin 64,
      ((argZ m d (ValueIdx.ix2 (⟨t.val * 1024 + r.val, by omega⟩ : Fin 16384) j) : EReal) - takenOf (argZ m d) (argE m d) (ValueIdx.ix2 (⟨t.val * 1024 + r.val, by omega⟩ : Fin 16384) j))
      * ((argZ m d (ValueIdx.ix2 (⟨t.val * 1024 + r.val, by omega⟩ : Fin 16384) j) : EReal) - takenOf (argZ m d) (argE m d) (ValueIdx.ix2 (⟨t.val * 1024 + r.val, by omega⟩ : Fin 16384) j)) := by
  have hN : Cert.KernelIdeal.cfg0.N = 16 := Cert.KernelIdeal.Gen.N_0
  have ht : t.val < Cert.KernelIdeal.cfg0.N := lt_of_lt_of_eq t.isLt hN.symm
  unfold psum
  rw [dif_pos ht]
  refine Finset.sum_congr rfl fun r _ => ?_
  obtain ⟨K, h1, -, h3⟩ := KernelIdeal.blk_first m d ⟨t.val, ht⟩ r
  exact h3.trans (row_is hz he (rowAt ⟨t.val, ht⟩ r) K h1).symm

/-- The mean. -/
theorem mean : KernelIdeal.V5 m d (Proc.devRef .tc Cert.KernelIdeal.main_v11)
    = (ReferenceIdeal.loss (F := Ideal) (argZ m d) (takenOf (argZ m d) (argE m d)) : FVec Ideal S_ .f32) := by
  funext i
  refine (KernelIdeal.V5_v11 m d i).trans ((KernelIdeal.word_last m d _).trans (Eq.trans ?_ (ReferenceIdeal.loss_at _ _ i).symm))
  refine congrArg (fun a : EReal => Ideal.div a (Ideal.ofBits .f32 0x49800000#32)) ?_
  refine Eq.trans ?_ (block_sum _).symm
  rw [Finset.sum_range]
  exact Finset.sum_congr rfl fun t _ => psum_is m d hz he t

end Cert.Proof.Equal

end
-- ==== Proof.lean ====
module

public import proofs.«01_k».proof.Defs
public import proofs.«01_k».proof.Proof.Gen.KernelIdeal
public import proofs.«01_k».proof.Proof.Gen.ReferenceIdeal
public import proofs.«01_k».proof.Proof.KernelIdeal.Outcome
public import proofs.«01_k».proof.Proof.ReferenceIdeal.Run
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

theorem quiescent_kernel : Cert.quiescent_KernelIdeal (hKernelIdeal := Cert.KernelIdeal.Gen.facts) :=
  fun m g _ => KernelIdeal.quiescent m g

theorem quiescent_reference : Cert.quiescent_ReferenceIdeal (hReferenceIdeal := Cert.ReferenceIdeal.Gen.facts) :=
  fun m g _ => θ_run_mono (ReferenceIdeal.run_main m g) fun r h =>
    ⟨fun c => ⟨(h.1 c _).trans (ReferenceIdeal.V4_arg0 m c), (h.1 c _).trans (ReferenceIdeal.V4_arg1 m c)⟩, h.2⟩

theorem quiescent_kernel_finite : Cert.quiescent_KernelIdeal_pre_finite (hKernelIdeal := Cert.KernelIdeal.Gen.facts) (hPre_finite := Finite.facts) :=
  fun m g _ => KernelIdeal.quiescent m g

theorem quiescent_reference_finite :
    Cert.quiescent_ReferenceIdeal_pre_finite (hReferenceIdeal := Cert.ReferenceIdeal.Gen.facts) (hPre_finite := Finite.facts) :=
  fun m g _ => θ_run_mono (ReferenceIdeal.run_main m g) fun r h =>
    ⟨fun c => ⟨(h.1 c _).trans (ReferenceIdeal.V4_arg0 m c), (h.1 c _).trans (ReferenceIdeal.V4_arg1 m c)⟩, h.2⟩

theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hfin hag
  have hr := fun c => @Finite.reals Finite.facts _ _ (hfin c)
  refine ⟨fun c => KernelIdeal.V5 m c (Proc.devRef .tc Cert.KernelIdeal.main_v15),
    fun c => KernelIdeal.V5 m c (Proc.devRef .tc Cert.KernelIdeal.main_v10_0),
    fun c => KernelIdeal.V5 m c (Proc.devRef .tc Cert.KernelIdeal.main_v11), ?_, ?_⟩
  · exact θ_run_mono (KernelIdeal.runs m g) fun r h c =>
      ⟨KernelIdeal.ends m c h _ (Pipeline.devRef_mem_ucRefs rfl), KernelIdeal.ends m c h _ (Pipeline.devRef_mem_ucRefs rfl),
        KernelIdeal.ends m c h _ (Pipeline.devRef_mem_ucRefs rfl),
        (KernelIdeal.ends m c h _ (Pipeline.devRef_mem_ucRefs rfl)).trans (KernelIdeal.V5_arg0 m c),
        (KernelIdeal.ends m c h _ (Pipeline.devRef_mem_ucRefs rfl)).trans (KernelIdeal.V5_arg1 m c)⟩
  · refine θ_run_mono (ReferenceIdeal.run_main m' g') fun r h c => ?_
    obtain ⟨⟨z', hz⟩, e', he⟩ := hr c
    refine ⟨(h.1 c _).trans ?_, (h.1 c _).trans ?_, (h.1 c _).trans ?_, (h.1 c _).trans (ReferenceIdeal.V4_arg0 m' c),
      (h.1 c _).trans (ReferenceIdeal.V4_arg1 m' c)⟩
    · refine Eq.trans ?_ (Equal.rows m c hz he).symm
      rw [ReferenceIdeal.V4, ReferenceIdeal.C_v17, ReferenceIdeal.V3_v15, ReferenceIdeal.V3_arg0, (hag c).1, (hag c).2]
      rfl
    · refine Eq.trans ?_ ((KernelIdeal.V5_v10_0 m c).trans (Equal.positions m c hz he)).symm
      rw [ReferenceIdeal.V4_v14, (hag c).1, (hag c).2]
      rfl
    · refine Eq.trans ?_ (Equal.mean m c hz he).symm
      rw [ReferenceIdeal.V4, ReferenceIdeal.C_v21, ReferenceIdeal.V3_v15, ReferenceIdeal.V3_arg0, (hag c).1, (hag c).2]
      rfl

theorem claim : Cert.Claim :=
  ⟨Cert.KernelIdeal.Gen.facts, Cert.ReferenceIdeal.Gen.facts, Finite.facts, quiescent_kernel, quiescent_kernel_finite,
    quiescent_reference, quiescent_reference_finite, algebraic⟩

end Cert.Proof
